-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v15) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_values) = v2 c
          ∧ r.2.mem ((c.tc : Thread Cert.ReferenceIdeal.nD Cert.ReferenceIdeal.τ).loc Cert.ReferenceIdeal.main_values_25) = v3 c
          ∧ r.2.mem ((c.tc : Thread Cert.ReferenceIdeal.nD Cert.ReferenceIdeal.τ).loc Cert.ReferenceIdeal.main_v123) = v4 c
          ∧ r.2.mem ((c.tc : Thread Cert.ReferenceIdeal.nD Cert.ReferenceIdeal.τ).loc Cert.ReferenceIdeal.main_v146) = v5 c
          ∧ r.2.mem ((c.tc : Thread Cert.ReferenceIdeal.nD Cert.ReferenceIdeal.τ).loc Cert.ReferenceIdeal.main_v152) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16x10x32x2048 : Shape := ⟨4, ![16, 10, 32, 2048]⟩
abbrev S2048x512 : Shape := ⟨2, ![2048, 512]⟩
abbrev S512x2048 : Shape := ⟨2, ![512, 2048]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x512 : Shape := ⟨2, ![1, 512]⟩
abbrev S1x128 : Shape := ⟨2, ![1, 128]⟩
abbrev S1x1 : Shape := ⟨2, ![1, 1]⟩
abbrev S16x10x32x4 : Shape := ⟨4, ![16, 10, 32, 4]⟩
abbrev S16x3x10x2048 : Shape := ⟨4, ![16, 3, 10, 2048]⟩
abbrev S16x1x32 : Shape := ⟨3, ![16, 1, 32]⟩
abbrev S16x1x128 : Shape := ⟨3, ![16, 1, 128]⟩
abbrev S1x10x32x2048 : Shape := ⟨4, ![1, 10, 32, 2048]⟩
abbrev S1x10x32x4 : Shape := ⟨4, ![1, 10, 32, 4]⟩
abbrev S1x3x10x2048 : Shape := ⟨4, ![1, 3, 10, 2048]⟩
abbrev S1x1x32 : Shape := ⟨3, ![1, 1, 32]⟩
abbrev S1x1x128 : Shape := ⟨3, ![1, 1, 128]⟩
abbrev S10x32x2048 : Shape := ⟨3, ![10, 32, 2048]⟩
abbrev S8x3 : Shape := ⟨2, ![8, 3]⟩
abbrev S320x2048 : Shape := ⟨2, ![320, 2048]⟩
abbrev S320x512 : Shape := ⟨2, ![320, 512]⟩
abbrev S32x512 : Shape := ⟨2, ![32, 512]⟩
abbrev S512x32 : Shape := ⟨2, ![512, 32]⟩
abbrev S32x32 : Shape := ⟨2, ![32, 32]⟩
abbrev S32 : Shape := ⟨1, ![32]⟩
abbrev S32x1 : Shape := ⟨2, ![32, 1]⟩
abbrev S320x128 : Shape := ⟨2, ![320, 128]⟩
abbrev S320 : Shape := ⟨1, ![320]⟩
abbrev S320x1 : Shape := ⟨2, ![320, 1]⟩
abbrev S10x32 : Shape := ⟨2, ![10, 32]⟩
abbrev S10 : Shape := ⟨1, ![10]⟩
abbrev S10x1 : Shape := ⟨2, ![10, 1]⟩
abbrev S10x32x1 : Shape := ⟨3, ![10, 32, 1]⟩
abbrev S320x4 : Shape := ⟨2, ![320, 4]⟩
abbrev S10x32x4 : Shape := ⟨3, ![10, 32, 4]⟩
abbrev S32x2048 : Shape := ⟨2, ![32, 2048]⟩
abbrev S29x2048 : Shape := ⟨2, ![29, 2048]⟩
abbrev S29 : Shape := ⟨1, ![29]⟩
abbrev S1x29 : Shape := ⟨2, ![1, 29]⟩
abbrev S1x1x29 : Shape := ⟨3, ![1, 1, 29]⟩
abbrev S1x1x1 : Shape := ⟨3, ![1, 1, 1]⟩
abbrev S1x32 : Shape := ⟨2, ![1, 32]⟩
abbrev S10x1x2048 : Shape := ⟨3, ![10, 1, 2048]⟩
abbrev S10x2048 : Shape := ⟨2, ![10, 2048]⟩
abbrev S1x1x10x2048 : Shape := ⟨4, ![1, 1, 10, 2048]⟩
abbrev S8x10x32x4 : Shape := ⟨4, ![8, 10, 32, 4]⟩
abbrev S80x32x4 : Shape := ⟨3, ![80, 32, 4]⟩
abbrev S8x3x10x2048 : Shape := ⟨4, ![8, 3, 10, 2048]⟩
abbrev S10x8x3x2048 : Shape := ⟨4, ![10, 8, 3, 2048]⟩
abbrev S80x3x2048 : Shape := ⟨3, ![80, 3, 2048]⟩
abbrev S16x32x1 : Shape := ⟨3, ![16, 32, 1]⟩
abbrev S8x1x1 : Shape := ⟨3, ![8, 1, 1]⟩
abbrev S8x1 : Shape := ⟨2, ![8, 1]⟩

abbrev nBuf : Space → Nat
  | .hbm => 34
  | .vmem => 21
  | .smem => 1
  | _ => 0

abbrev bufTy : (tb : Table) → Fin (tcTables nBuf tb) → BufTy
  | .hbm, ⟨0, _⟩ => ⟨S16x10x32x2048, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S512x2048, .f32⟩
  | .hbm, ⟨5, _⟩ => ⟨S2048x512, .f32⟩
  | .hbm, ⟨6, _⟩ => ⟨S512, .f32⟩
  | .hbm, ⟨7, _⟩ => ⟨S512x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x512, .f32⟩
  | .hbm, ⟨12, _⟩ => ⟨S1x128, .f32⟩
  | .hbm, ⟨13, _⟩ => ⟨S1x128, .f32⟩
  | .hbm, ⟨14, _⟩ => ⟨S1x1, .f32⟩
  | .hbm, ⟨15, _⟩ => ⟨S16x10x32x4, .f32⟩
  | .hbm, ⟨16, _⟩ => ⟨S16x3x10x2048, .f32⟩
  | .hbm, ⟨17, _⟩ => ⟨S16x1x32, .f32⟩
  | .hbm, ⟨18, _⟩ => ⟨S16x1x128, .f32⟩
  | .hbm, ⟨19, _⟩ => ⟨S8x10x32x4, .f32⟩
  | .hbm, ⟨20, _⟩ => ⟨S80x32x4, .f32⟩
  | .hbm, ⟨21, _⟩ => ⟨S8x10x32x4, .f32⟩
  | .hbm, ⟨22, _⟩ => ⟨S80x32x4, .f32⟩
  | .hbm, ⟨23, _⟩ => ⟨S8x3x10x2048, .f32⟩
  | .hbm, ⟨24, _⟩ => ⟨S10x8x3x2048, .f32⟩
  | .hbm, ⟨25, _⟩ => ⟨S80x3x2048, .f32⟩
  | .hbm, ⟨26, _⟩ => ⟨S8x3x10x2048, .f32⟩
  | .hbm, ⟨27, _⟩ => ⟨S10x8x3x2048, .f32⟩
  | .hbm, ⟨28, _⟩ => ⟨S80x3x2048, .f32⟩
  | .hbm, ⟨29, _⟩ => ⟨S16x32x1, .f32⟩
  | .hbm, ⟨30, _⟩ => ⟨S8x1x1, .f32⟩
  | .hbm, ⟨31, _⟩ => ⟨S8x1, .f32⟩
  | .hbm, ⟨32, _⟩ => ⟨S8x1x1, .f32⟩
  | .hbm, ⟨33, _⟩ => ⟨S8x1, .f32⟩
  | .local _ .vmem, ⟨0, _⟩ => ⟨S1x10x32x2048, .f32⟩
  | .local _ .vmem, ⟨1, _⟩ => ⟨S1x10x32x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S512x2048, .f32⟩
  | .local _ .vmem, ⟨6, _⟩ => ⟨S2048x512, .f32⟩
  | .local _ .vmem, ⟨7, _⟩ => ⟨S1x512, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S1x10x32x4, .f32⟩
  | .local _ .vmem, ⟨13, _⟩ => ⟨S1x10x32x4, .f32⟩
  | .local _ .vmem, ⟨14, _⟩ => ⟨S1x3x10x2048, .f32⟩
  | .local _ .vmem, ⟨15, _⟩ => ⟨S1x3x10x2048, .f32⟩
  | .local _ .vmem, ⟨16, _⟩ => ⟨S1x1x32, .f32⟩
  | .local _ .vmem, ⟨17, _⟩ => ⟨S1x1x32, .f32⟩
  | .local _ .vmem, ⟨18, _⟩ => ⟨S1x1x128, .f32⟩
  | .local _ .vmem, ⟨19, _⟩ => ⟨S1x1x128, .f32⟩
  | .local _ .vmem, ⟨20, _⟩ => ⟨S10x32x2048, .f32⟩
  | .local _ .smem, ⟨0, _⟩ => ⟨S8x3, .i32⟩
  | _, _ => ⟨S16x10x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F] [Named F]

def κ : String → Option EReal := fun
  | "s" => some (((Real.sqrt 512)⁻¹ : ℝ) : EReal)
  | _ => none

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v314 : BitVec 32 := Scalar.extui v0
  let c0_i32 : BitVec 32 := 0#32
  let v315 : BitVec 1 := Scalar.cmpi .ne v314 c0_i32
  v315

def k0_off1 (i : grid0.Coords) : Fin 2 → Nat :=
  let arg0 : BitVec 32 := BitVec.ofNat 32 (i 0).val
  let v402 : Index := Scalar.indexCast arg0
  let c0_161 : Index := 0#32
  ![v402.toNat, 0]
def k0_off2 (i : grid0.Coords) : Fin 2 → Nat :=
  let arg0 : BitVec 32 := BitVec.ofNat 32 (i 0).val
  let v421 : Index := Scalar.indexCast arg0
  let c1_167 : Index := 1#32
  ![v421.toNat, 1]
def k0_off3 (i : grid0.Coords) : Fin 2 → Nat :=
  let arg0 : BitVec 32 := BitVec.ofNat 32 (i 0).val
  let v440 : Index := Scalar.indexCast arg0
  let c2_173 : Index := 2#32
  ![v440.toNat, 2]
def k0_off4 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_124 : BitVec 32 := 8#32
  let v316 : BitVec 32 := Scalar.subi arg0 c8_i32_124
  let v317 : BitVec 32 := Scalar.select v0 arg0 v316
  let v320 : Index := Scalar.indexCast v317
  let c0_125 : Index := 0#32
  ![v320.toNat, 0]
def k0_off5 (v321 : BitVec 32) : Fin 3 → Nat :=
  let c0_126 : Index := 0#32
  let v322 : Index := Scalar.indexCast v321
  let c0_127 : Index := 0#32
  ![0, v322.toNat, 0]

def k0_chk1 (v321 : BitVec 32) : Prop :=
  (∀ a, (k0_off5 v321) a + S10x1x2048.size a ≤ S10x32x2048.size a)
theorem k0_off5_inb : ∀ (v321 : BitVec 32) (k0_hw1 : k0_chk1 v321), ∀ a, (k0_off5 v321) a + S10x1x2048.size a ≤ S10x32x2048.size a := fun v321 k0_hw1 => k0_hw1

def k0_off6 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_124 : BitVec 32 := 8#32
  let v316 : BitVec 32 := Scalar.subi arg0 c8_i32_124
  let v317 : BitVec 32 := Scalar.select v0 arg0 v316
  let v337 : Index := Scalar.indexCast v317
  let c1 : Index := 1#32
  ![v337.toNat, 1]
def k0_off7 (v338 : BitVec 32) : Fin 3 → Nat :=
  let c0_135 : Index := 0#32
  let v339 : Index := Scalar.indexCast v338
  let c0_136 : Index := 0#32
  ![0, v339.toNat, 0]

def k0_chk2 (v338 : BitVec 32) : Prop :=
  (∀ a, (k0_off7 v338) a + S10x1x2048.size a ≤ S10x32x2048.size a)
theorem k0_off7_inb : ∀ (v338 : BitVec 32) (k0_hw2 : k0_chk2 v338), ∀ a, (k0_off7 v338) a + S10x1x2048.size a ≤ S10x32x2048.size a := fun v338 k0_hw2 => k0_hw2

def k0_off8 (i : grid0.Coords) : Fin 2 → Nat :=
  let arg0 : BitVec 32 := BitVec.ofNat 32 (i 0).val
  let c8_i32 : BitVec 32 := 8#32
  let v0 : BitVec 1 := Scalar.cmpi .slt arg0 c8_i32
  let c8_i32_124 : BitVec 32 := 8#32
  let v316 : BitVec 32 := Scalar.subi arg0 c8_i32_124
  let v317 : BitVec 32 := Scalar.select v0 arg0 v316
  let v354 : Index := Scalar.indexCast v317
  let c2 : Index := 2#32
  ![v354.toNat, 2]
def k0_off9 (v355 : BitVec 32) : Fin 3 → Nat :=
  let c0_143 : Index := 0#32
  let v356 : Index := Scalar.indexCast v355
  let c0_144 : Index := 0#32
  ![0, v356.toNat, 0]

def k0_chk3 (v355 : BitVec 32) : Prop :=
  (∀ a, (k0_off9 v355) a + S10x1x2048.size a ≤ S10x32x2048.size a)
theorem k0_off9_inb : ∀ (v355 : BitVec 32) (k0_hw3 : k0_chk3 v355), ∀ a, (k0_off9 v355) a + S10x1x2048.size a ≤ S10x32x2048.size a := fun v355 k0_hw3 => k0_hw3

def cc0_transform_0 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.addi arg0 c8_i32_0
  let c8_i32_1 : BitVec 32 := 8#32
  let v2 : BitVec 32 := Scalar.subi arg0 c8_i32_1
  let v3 : BitVec 32 := Scalar.select v0 v1 v2
  let c0_i32 : BitVec 32 := 0#32
  let c0_i32_2 : BitVec 32 := 0#32
  let c0_i32_3 : BitVec 32 := 0#32
  let c0_i32_4 : BitVec 32 := 0#32
  ![v3.toNat, c0_i32.toNat, c0_i32_2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.addi arg0 c8_i32_0
  let c8_i32_1 : BitVec 32 := 8#32
  let v2 : BitVec 32 := Scalar.subi arg0 c8_i32_1
  let v3 : BitVec 32 := Scalar.select v0 v1 v2
  let c0_i32 : BitVec 32 := 0#32
  let c0_i32_2 : BitVec 32 := 0#32
  let c0_i32_3 : BitVec 32 := 0#32
  let c0_i32_4 : BitVec 32 := 0#32
  ![v3.toNat, c0_i32.toNat, c0_i32_2.toNat, c0_i32_3.toNat]

def cc0_transform_12 (i : grid0.Coords) : Fin 4 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.addi arg0 c8_i32_0
  let c8_i32_1 : BitVec 32 := 8#32
  let v2 : BitVec 32 := Scalar.subi arg0 c8_i32_1
  let v3 : BitVec 32 := Scalar.select v0 v1 v2
  let c0_i32 : BitVec 32 := 0#32
  let c0_i32_2 : BitVec 32 := 0#32
  let c0_i32_3 : BitVec 32 := 0#32
  let c0_i32_4 : BitVec 32 := 0#32
  ![v3.toNat, c0_i32.toNat, c0_i32_2.toNat, c0_i32_3.toNat]

def cc0_transform_13 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.addi arg0 c8_i32_0
  let c8_i32_1 : BitVec 32 := 8#32
  let v2 : BitVec 32 := Scalar.subi arg0 c8_i32_1
  let v3 : BitVec 32 := Scalar.select v0 v1 v2
  let c0_i32 : BitVec 32 := 0#32
  let c0_i32_2 : BitVec 32 := 0#32
  let c0_i32_3 : BitVec 32 := 0#32
  ![v3.toNat, c0_i32.toNat, c0_i32_2.toNat]

def cc0_transform_14 (i : grid0.Coords) : Fin 3 → Nat :=
  let arg0 : BitVec 32 := BitVec.ofNat 32 (i 0).val
  let c8_i32 : BitVec 32 := 8#32
  let v0 : BitVec 1 := Scalar.cmpi .slt arg0 c8_i32
  let c8_i32_0 : BitVec 32 := 8#32
  let v1 : BitVec 32 := Scalar.addi arg0 c8_i32_0
  let c8_i32_1 : BitVec 32 := 8#32
  let v2 : BitVec 32 := Scalar.subi arg0 c8_i32_1
  let v3 : BitVec 32 := Scalar.select v0 v1 v2
  let c0_i32 : BitVec 32 := 0#32
  let c0_i32_2 : BitVec 32 := 0#32
  let c0_i32_3 : BitVec 32 := 0#32
  ![v3.toNat, c0_i32.toNat, c0_i32_2.toNat]

abbrev stage0_0 : Fin 2 → Memref sig .tc .vmem S1x10x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x10x32x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x10x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16x10x32x2048 : Shape := ⟨4, ![16, 10, 32, 2048]⟩
abbrev S2048x512 : Shape := ⟨2, ![2048, 512]⟩
abbrev S512x2048 : Shape := ⟨2, ![512, 2048]⟩
abbrev S512 : Shape := ⟨1, ![512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S160x32x2048 : Shape := ⟨3, ![160, 32, 2048]⟩
abbrev S160x32x512 : Shape := ⟨3, ![160, 32, 512]⟩
abbrev S160x32x32 : Shape := ⟨3, ![160, 32, 32]⟩
abbrev S_ : Shape := ⟨0, ![]⟩
abbrev S160x32 : Shape := ⟨2, ![160, 32]⟩
abbrev S160x32x1 : Shape := ⟨3, ![160, 32, 1]⟩
abbrev S1x1x512 : Shape := ⟨3, ![1, 1, 512]⟩
abbrev S160x32x128 : Shape := ⟨3, ![160, 32, 128]⟩
abbrev S1x1x128 : Shape := ⟨3, ![1, 1, 128]⟩
abbrev S1x1x1 : Shape := ⟨3, ![1, 1, 1]⟩
abbrev S16x10x32 : Shape := ⟨3, ![16, 10, 32]⟩
abbrev S16x32 : Shape := ⟨2, ![16, 32]⟩
abbrev S16x32x1 : Shape := ⟨3, ![16, 32, 1]⟩
abbrev S80x32x2048 : Shape := ⟨3, ![80, 32, 2048]⟩
abbrev S8x32x1 : Shape := ⟨3, ![8, 32, 1]⟩
abbrev S8x10x32x2048 : Shape := ⟨4, ![8, 10, 32, 2048]⟩
abbrev S8x32x2048 : Shape := ⟨3, ![8, 32, 2048]⟩
abbrev S80x32 : Shape := ⟨2, ![80, 32]⟩
abbrev S80 : Shape := ⟨1, ![80]⟩
abbrev S80x1 : Shape := ⟨2, ![80, 1]⟩
abbrev S80x32x1 : Shape := ⟨3, ![80, 32, 1]⟩
abbrev S80x32x4 : Shape := ⟨3, ![80, 32, 4]⟩
abbrev S8x29x2048 : Shape := ⟨3, ![8, 29, 2048]⟩
abbrev S8x29 : Shape := ⟨2, ![8, 29]⟩
abbrev S29 : Shape := ⟨1, ![29]⟩
abbrev S8x3 : Shape := ⟨2, ![8, 3]⟩
abbrev S8x3x1 : Shape := ⟨3, ![8, 3, 1]⟩
abbrev S10x8x32x2048 : Shape := ⟨4, ![10, 8, 32, 2048]⟩
abbrev S1x8x3x1 : Shape := ⟨4, ![1, 8, 3, 1]⟩
abbrev S10x8x3x2048 : Shape := ⟨4, ![10, 8, 3, 2048]⟩
abbrev S10x8x3x2048x1 : Shape := ⟨5, ![10, 8, 3, 2048, 1]⟩
abbrev S1x1x1x1x1 : Shape := ⟨5, ![1, 1, 1, 1, 1]⟩
abbrev S80x3x2048 : Shape := ⟨3, ![80, 3, 2048]⟩
abbrev S8x1 : Shape := ⟨2, ![8, 1]⟩

abbrev nBuf : Space → Nat
  | .hbm => 340
  | .vmem => 0
  | .smem => 0
  | _ => 0

abbrev hbmTy0_0 (i : Nat) : BufTy := match i % 128 with
  | 0 => ⟨S16x10x32x2048, .f32⟩
  | 1 => ⟨S2048x512, .f32⟩
  | 2 => ⟨S2048x512, .f32⟩
  | 3 => ⟨S2048x512, .f32⟩
  | 4 => ⟨S512x2048, .f32⟩
  | 5 => ⟨S2048x512, .f32⟩
  | 6 => ⟨S512, .f32⟩
  | 7 => ⟨S512x128, .f32⟩
  | 8 => ⟨S128, .f32⟩
  | 9 => ⟨S128x1, .f32⟩
  | 10 => ⟨S1, .f32⟩
  | 11 => ⟨S160x32x2048, .f32⟩
  | 12 => ⟨S160x32x512, .f32⟩
  | 13 => ⟨S160x32x512, .f32⟩
  | 14 => ⟨S160x32x512, .f32⟩
  | 15 => ⟨S160x32x32, .f32⟩
  | 16 => ⟨S_, .f32⟩
  | 17 => ⟨S_, .f32⟩
  | 18 => ⟨S160x32x32, .f32⟩
  | 19 => ⟨S160x32x32, .f32⟩
  | 20 => ⟨S_, .f32⟩
  | 21 => ⟨S160x32, .f32⟩
  | 22 => ⟨S_, .f32⟩
  | 23 => ⟨S160x32, .f32⟩
  | 24 => ⟨S160x32, .f32⟩
  | 25 => ⟨S160x32x1, .f32⟩
  | 26 => ⟨S160x32x32, .f32⟩
  | 27 => ⟨S160x32x32, .f32⟩
  | 28 => ⟨S160x32x32, .f32⟩
  | 29 => ⟨S_, .f32⟩
  | 30 => ⟨S160x32, .f32⟩
  | 31 => ⟨S160x32x1, .f32⟩
  | 32 => ⟨S160x32x32, .f32⟩
  | 33 => ⟨S160x32x32, .f32⟩
  | 34 => ⟨S160x32x512, .f32⟩
  | 35 => ⟨S160x32x2048, .f32⟩
  | 36 => ⟨S160x32x2048, .f32⟩
  | 37 => ⟨S_, .f32⟩
  | 38 => ⟨S160x32x2048, .f32⟩
  | 39 => ⟨S160x32x2048, .f32⟩
  | 40 => ⟨S160x32x512, .f32⟩
  | 41 => ⟨S1x1x512, .f32⟩
  | 42 => ⟨S160x32x512, .f32⟩
  | 43 => ⟨S160x32x512, .f32⟩
  | 44 => ⟨S_, .f32⟩
  | 45 => ⟨S160x32x512, .f32⟩
  | 46 => ⟨S160x32x512, .f32⟩
  | 47 => ⟨S160x32x128, .f32⟩
  | 48 => ⟨S1x1x128, .f32⟩
  | 49 => ⟨S160x32x128, .f32⟩
  | 50 => ⟨S160x32x128, .f32⟩
  | 51 => ⟨S_, .f32⟩
  | 52 => ⟨S160x32x128, .f32⟩
  | 53 => ⟨S160x32x128, .f32⟩
  | 54 => ⟨S160x32x1, .f32⟩
  | 55 => ⟨S1x1x1, .f32⟩
  | 56 => ⟨S160x32x1, .f32⟩
  | 57 => ⟨S160x32x1, .f32⟩
  | 58 => ⟨S160x32x1, .f32⟩
  | 59 => ⟨S160x32x1, .f32⟩
  | 60 => ⟨S_, .f32⟩
  | 61 => ⟨S160x32x1, .f32⟩
  | 62 => ⟨S160x32x1, .f32⟩
  | 63 => ⟨S_, .f32⟩
  | 64 => ⟨S160x32x1, .f32⟩
  | 65 => ⟨S160x32x1, .f32⟩
  | 66 => ⟨S16x10x32, .f32⟩
  | 67 => ⟨S_, .f32⟩
  | 68 => ⟨S16x32, .f32⟩
  | 69 => ⟨S_, .f32⟩
  | 70 => ⟨S16x32, .f32⟩
  | 71 => ⟨S16x32, .f32⟩
  | 72 => ⟨S16x32x1, .f32⟩
  | 73 => ⟨S80x32x2048, .f32⟩
  | 74 => ⟨S8x32x1, .f32⟩
  | 75 => ⟨S80x32x2048, .f32⟩
  | 76 => ⟨S8x32x1, .f32⟩
  | 77 => ⟨S8x10x32x2048, .f32⟩
  | 78 => ⟨S_, .f32⟩
  | 79 => ⟨S8x32x2048, .f32⟩
  | 80 => ⟨S_, .f32⟩
  | 81 => ⟨S8x32x2048, .f32⟩
  | 82 => ⟨S8x32x2048, .f32⟩
  | 83 => ⟨S8x10x32x2048, .f32⟩
  | 84 => ⟨S_, .f32⟩
  | 85 => ⟨S8x32x2048, .f32⟩
  | 86 => ⟨S_, .f32⟩
  | 87 => ⟨S8x32x2048, .f32⟩
  | 88 => ⟨S8x32x2048, .f32⟩
  | 89 => ⟨S80x32x2048, .f32⟩
  | 90 => ⟨S_, .f32⟩
  | 91 => ⟨S80x32, .f32⟩
  | 92 => ⟨S_, .f32⟩
  | 93 => ⟨S80x32, .f32⟩
  | 94 => ⟨S80x32, .f32⟩
  | 95 => ⟨S80x32, .f32⟩
  | 96 => ⟨S_, .f32⟩
  | 97 => ⟨S80x32, .f32⟩
  | 98 => ⟨S80x32, .f32⟩
  | 99 => ⟨S_, .f32⟩
  | 100 => ⟨S80, .f32⟩
  | 101 => ⟨S_, .f32⟩
  | 102 => ⟨S80, .f32⟩
  | 103 => ⟨S80, .f32⟩
  | 104 => ⟨S80x1, .f32⟩
  | 105 => ⟨S80x32, .f32⟩
  | 106 => ⟨S80x32, .f32⟩
  | 107 => ⟨S80x32, .f32⟩
  | 108 => ⟨S_, .f32⟩
  | 109 => ⟨S80, .f32⟩
  | 110 => ⟨S80x1, .f32⟩
  | 111 => ⟨S80x32, .f32⟩
  | 112 => ⟨S80x32, .f32⟩
  | 113 => ⟨S80x32x1, .f32⟩
  | 114 => ⟨S80x32x2048, .f32⟩
  | 115 => ⟨S80x32x2048, .f32⟩
  | 116 => ⟨S_, .f32⟩
  | 117 => ⟨S80x32x2048, .f32⟩
  | 118 => ⟨S80x32x2048, .f32⟩
  | 119 => ⟨S80x32x2048, .f32⟩
  | 120 => ⟨S_, .f32⟩
  | 121 => ⟨S80x32, .f32⟩
  | 122 => ⟨S_, .f32⟩
  | 123 => ⟨S80x32, .f32⟩
  | 124 => ⟨S80x32, .f32⟩
  | 125 => ⟨S80x32, .f32⟩
  | 126 => ⟨S_, .f32⟩
  | 127 => ⟨S80x32, .f32⟩
  | _ => ⟨S16x10x32x2048, .f32⟩

abbrev hbmTy0_1 (i : Nat) : BufTy := match i % 128 with
  | 0 => ⟨S80x32, .f32⟩
  | 1 => ⟨S_, .f32⟩
  | 2 => ⟨S80, .f32⟩
  | 3 => ⟨S_, .f32⟩
  | 4 => ⟨S80, .f32⟩
  | 5 => ⟨S80, .f32⟩
  | 6 => ⟨S80x1, .f32⟩
  | 7 => ⟨S80x32, .f32⟩
  | 8 => ⟨S80x32, .f32⟩
  | 9 => ⟨S80x32, .f32⟩
  | 10 => ⟨S_, .f32⟩
  | 11 => ⟨S80, .f32⟩
  | 12 => ⟨S80x1, .f32⟩
  | 13 => ⟨S80x32, .f32⟩
  | 14 => ⟨S80x32, .f32⟩
  | 15 => ⟨S80x32x1, .f32⟩
  | 16 => ⟨S80x32x2048, .f32⟩
  | 17 => ⟨S80x32x2048, .f32⟩
  | 18 => ⟨S_, .f32⟩
  | 19 => ⟨S80x32x2048, .f32⟩
  | 20 => ⟨S80x32x2048, .f32⟩
  | 21 => ⟨S80x32x4, .f32⟩
  | 22 => ⟨S80x32x4, .i32⟩
  | 23 => ⟨S80x32x4, .f32⟩
  | 24 => ⟨S80x32x4, .i32⟩
  | 25 => ⟨S8x29x2048, .f32⟩
  | 26 => ⟨S8x29x2048, .f32⟩
  | 27 => ⟨S8x29x2048, .f32⟩
  | 28 => ⟨S8x29x2048, .f32⟩
  | 29 => ⟨S_, .f32⟩
  | 30 => ⟨S8x29, .f32⟩
  | 31 => ⟨S_, .f32⟩
  | 32 => ⟨S8x29, .f32⟩
  | 33 => ⟨S8x29, .f32⟩
  | 34 => ⟨S29, .i32⟩
  | 35 => ⟨S_, .i32⟩
  | 36 => ⟨S29, .i32⟩
  | 37 => ⟨S29, .i32⟩
  | 38 => ⟨S8x29, .i32⟩
  | 39 => ⟨S8x3, .f32⟩
  | 40 => ⟨S8x3, .i32⟩
  | 41 => ⟨S_, .i32⟩
  | 42 => ⟨S8x3, .i32⟩
  | 43 => ⟨S8x3, .i1⟩
  | 44 => ⟨S_, .i32⟩
  | 45 => ⟨S8x3, .i32⟩
  | 46 => ⟨S8x3, .i32⟩
  | 47 => ⟨S8x3, .i32⟩
  | 48 => ⟨S8x3x1, .i32⟩
  | 49 => ⟨S1, .i32⟩
  | 50 => ⟨S_, .i32⟩
  | 51 => ⟨S8x3x1, .i32⟩
  | 52 => ⟨S8x3x1, .i1⟩
  | 53 => ⟨S1x1x1, .i32⟩
  | 54 => ⟨S8x3x1, .i32⟩
  | 55 => ⟨S8x3x1, .i1⟩
  | 56 => ⟨S8x3x1, .i1⟩
  | 57 => ⟨S_, .i1⟩
  | 58 => ⟨S8x3, .i1⟩
  | 59 => ⟨S8x3, .i32⟩
  | 60 => ⟨S_, .i32⟩
  | 61 => ⟨S8x3, .i32⟩
  | 62 => ⟨S8x3, .i32⟩
  | 63 => ⟨S8x10x32x2048, .f32⟩
  | 64 => ⟨S10x8x32x2048, .f32⟩
  | 65 => ⟨S1x8x3x1, .i32⟩
  | 66 => ⟨S10x8x3x2048, .i32⟩
  | 67 => ⟨S_, .i32⟩
  | 68 => ⟨S10x8x3x2048, .i32⟩
  | 69 => ⟨S10x8x3x2048, .i1⟩
  | 70 => ⟨S_, .i32⟩
  | 71 => ⟨S10x8x3x2048, .i32⟩
  | 72 => ⟨S10x8x3x2048, .i32⟩
  | 73 => ⟨S10x8x3x2048, .i32⟩
  | 74 => ⟨S10x8x3x2048x1, .i32⟩
  | 75 => ⟨S1, .i32⟩
  | 76 => ⟨S_, .i32⟩
  | 77 => ⟨S10x8x3x2048x1, .i32⟩
  | 78 => ⟨S10x8x3x2048x1, .i1⟩
  | 79 => ⟨S1x1x1x1x1, .i32⟩
  | 80 => ⟨S10x8x3x2048x1, .i32⟩
  | 81 => ⟨S10x8x3x2048x1, .i1⟩
  | 82 => ⟨S10x8x3x2048x1, .i1⟩
  | 83 => ⟨S_, .i1⟩
  | 84 => ⟨S10x8x3x2048, .i1⟩
  | 85 => ⟨S10x8x3x2048, .f32⟩
  | 86 => ⟨S_, .f32⟩
  | 87 => ⟨S10x8x3x2048, .f32⟩
  | 88 => ⟨S10x8x3x2048, .f32⟩
  | 89 => ⟨S80x3x2048, .f32⟩
  | 90 => ⟨S8x3x1, .i32⟩
  | 91 => ⟨S_, .i32⟩
  | 92 => ⟨S8x3x1, .i32⟩
  | 93 => ⟨S8x3x1, .i1⟩
  | 94 => ⟨S_, .i32⟩
  | 95 => ⟨S8x3x1, .i32⟩
  | 96 => ⟨S8x3x1, .i32⟩
  | 97 => ⟨S8x3x1, .i32⟩
  | 98 => ⟨S1, .i32⟩
  | 99 => ⟨S_, .i32⟩
  | 100 => ⟨S8x3x1, .i32⟩
  | 101 => ⟨S8x3x1, .i1⟩
  | 102 => ⟨S1x1x1, .i32⟩
  | 103 => ⟨S8x3x1, .i32⟩
  | 104 => ⟨S8x3x1, .i1⟩
  | 105 => ⟨S8x3x1, .i1⟩
  | 106 => ⟨S_, .i1⟩
  | 107 => ⟨S8x3, .i1⟩
  | 108 => ⟨S8x3x1, .f32⟩
  | 109 => ⟨S8x3x1, .i1⟩
  | 110 => ⟨S_, .f32⟩
  | 111 => ⟨S8x3x1, .f32⟩
  | 112 => ⟨S8x3x1, .f32⟩
  | 113 => ⟨S_, .f32⟩
  | 114 => ⟨S8x1, .f32⟩
  | 115 => ⟨S_, .f32⟩
  | 116 => ⟨S8x1, .f32⟩
  | 117 => ⟨S8x1, .f32⟩
  | 118 => ⟨S8x29x2048, .f32⟩
  | 119 => ⟨S8x29x2048, .f32⟩
  | 120 => ⟨S8x29x2048, .f32⟩
  | 121 => ⟨S8x29x2048, .f32⟩
  | 122 => ⟨S_, .f32⟩
  | 123 => ⟨S8x29, .f32⟩
  | 124 => ⟨S_, .f32⟩
  | 125 => ⟨S8x29, .f32⟩
  | 126 => ⟨S8x29, .f32⟩
  | 127 => ⟨S29, .i32⟩
  | _ => ⟨S16x10x32x2048, .f32⟩

abbrev hbmTy0_2 (i : Nat) : BufTy := match i % 128 with
  | 0 => ⟨S_, .i32⟩
  | 1 => ⟨S29, .i32⟩
  | 2 => ⟨S29, .i32⟩
  | 3 => ⟨S8x29, .i32⟩
  | 4 => ⟨S8x3, .f32⟩
  | 5 => ⟨S8x3, .i32⟩
  | 6 => ⟨S_, .i32⟩
  | 7 => ⟨S8x3, .i32⟩
  | 8 => ⟨S8x3, .i1⟩
  | 9 => ⟨S_, .i32⟩
  | 10 => ⟨S8x3, .i32⟩
  | 11 => ⟨S8x3, .i32⟩
  | 12 => ⟨S8x3, .i32⟩
  | 13 => ⟨S8x3x1, .i32⟩
  | 14 => ⟨S1, .i32⟩
  | 15 => ⟨S_, .i32⟩
  | 16 => ⟨S8x3x1, .i32⟩
  | 17 => ⟨S8x3x1, .i1⟩
  | 18 => ⟨S1x1x1, .i32⟩
  | 19 => ⟨S8x3x1, .i32⟩
  | 20 => ⟨S8x3x1, .i1⟩
  | 21 => ⟨S8x3x1, .i1⟩
  | 22 => ⟨S_, .i1⟩
  | 23 => ⟨S8x3, .i1⟩
  | 24 => ⟨S8x3, .i32⟩
  | 25 => ⟨S_, .i32⟩
  | 26 => ⟨S8x3, .i32⟩
  | 27 => ⟨S8x3, .i32⟩
  | 28 => ⟨S8x10x32x2048, .f32⟩
  | 29 => ⟨S10x8x32x2048, .f32⟩
  | 30 => ⟨S1x8x3x1, .i32⟩
  | 31 => ⟨S10x8x3x2048, .i32⟩
  | 32 => ⟨S_, .i32⟩
  | 33 => ⟨S10x8x3x2048, .i32⟩
  | 34 => ⟨S10x8x3x2048, .i1⟩
  | 35 => ⟨S_, .i32⟩
  | 36 => ⟨S10x8x3x2048, .i32⟩
  | 37 => ⟨S10x8x3x2048, .i32⟩
  | 38 => ⟨S10x8x3x2048, .i32⟩
  | 39 => ⟨S10x8x3x2048x1, .i32⟩
  | 40 => ⟨S1, .i32⟩
  | 41 => ⟨S_, .i32⟩
  | 42 => ⟨S10x8x3x2048x1, .i32⟩
  | 43 => ⟨S10x8x3x2048x1, .i1⟩
  | 44 => ⟨S1x1x1x1x1, .i32⟩
  | 45 => ⟨S10x8x3x2048x1, .i32⟩
  | 46 => ⟨S10x8x3x2048x1, .i1⟩
  | 47 => ⟨S10x8x3x2048x1, .i1⟩
  | 48 => ⟨S_, .i1⟩
  | 49 => ⟨S10x8x3x2048, .i1⟩
  | 50 => ⟨S10x8x3x2048, .f32⟩
  | 51 => ⟨S_, .f32⟩
  | 52 => ⟨S10x8x3x2048, .f32⟩
  | 53 => ⟨S10x8x3x2048, .f32⟩
  | 54 => ⟨S80x3x2048, .f32⟩
  | 55 => ⟨S8x3x1, .i32⟩
  | 56 => ⟨S_, .i32⟩
  | 57 => ⟨S8x3x1, .i32⟩
  | 58 => ⟨S8x3x1, .i1⟩
  | 59 => ⟨S_, .i32⟩
  | 60 => ⟨S8x3x1, .i32⟩
  | 61 => ⟨S8x3x1, .i32⟩
  | 62 => ⟨S8x3x1, .i32⟩
  | 63 => ⟨S1, .i32⟩
  | 64 => ⟨S_, .i32⟩
  | 65 => ⟨S8x3x1, .i32⟩
  | 66 => ⟨S8x3x1, .i1⟩
  | 67 => ⟨S1x1x1, .i32⟩
  | 68 => ⟨S8x3x1, .i32⟩
  | 69 => ⟨S8x3x1, .i1⟩
  | 70 => ⟨S8x3x1, .i1⟩
  | 71 => ⟨S_, .i1⟩
  | 72 => ⟨S8x3, .i1⟩
  | 73 => ⟨S8x3x1, .f32⟩
  | 74 => ⟨S8x3x1, .i1⟩
  | 75 => ⟨S_, .f32⟩
  | 76 => ⟨S8x3x1, .f32⟩
  | 77 => ⟨S8x3x1, .f32⟩
  | 78 => ⟨S_, .f32⟩
  | 79 => ⟨S8x1, .f32⟩
  | 80 => ⟨S_, .f32⟩
  | 81 => ⟨S8x1, .f32⟩
  | 82 => ⟨S8x1, .f32⟩
  | 83 => ⟨S16x32x1, .f32⟩
  | _ => ⟨S16x10x32x2048, .f32⟩

abbrev hbmTy (i : Nat) : BufTy := match i / 128 with
  | 0 => hbmTy0_0 i
  | 1 => hbmTy0_1 i
  | 2 => hbmTy0_2 i
  | _ => ⟨S16x10x32x2048, .f32⟩

abbrev bufTy : (tb : Table) → Fin (tcTables nBuf tb) → BufTy
  | .hbm, ⟨i, _⟩ => hbmTy i
  | _, _ => ⟨S16x10x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_v61 : Ref sig .tc := ⟨.hbm, 91, rfl⟩
abbrev main_cst_12 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_cst_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_16 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_18 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_20 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_cst_22 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_23 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_24 : Ref sig .tc := ⟨.hbm, 146, rfl⟩
abbrev main_v104 : Ref sig .tc := ⟨.hbm, 147, rfl⟩
abbrev main_v105 : Ref sig .tc := ⟨.hbm, 148, rfl⟩
abbrev main_values : Ref sig .tc := ⟨.hbm, 149, rfl⟩
abbrev main_indices : Ref sig .tc := ⟨.hbm, 150, rfl⟩
abbrev main_values_25 : Ref sig .tc := ⟨.hbm, 151, rfl⟩
abbrev main_indices_26 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_27 : Ref sig .tc := ⟨.hbm, 157, rfl⟩
abbrev main_v110 : Ref sig .tc := ⟨.hbm, 158, rfl⟩
abbrev main_cst_28 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_c : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_values_29 : Ref sig .tc := ⟨.hbm, 167, rfl⟩
abbrev main_indices_30 : Ref sig .tc := ⟨.hbm, 168, rfl⟩
abbrev main_call3_c : Ref sig .tc := ⟨.hbm, 169, rfl⟩
abbrev main_call3_v0 : Ref sig .tc := ⟨.hbm, 170, rfl⟩
abbrev main_call3_v1 : Ref sig .tc := ⟨.hbm, 171, rfl⟩
abbrev main_call3_c_0 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_c_1 : Ref sig .tc := ⟨.hbm, 177, rfl⟩
abbrev main_call3_c_2 : Ref sig .tc := ⟨.hbm, 178, rfl⟩
abbrev main_call3_v6 : Ref sig .tc := ⟨.hbm, 179, rfl⟩
abbrev main_call3_v7 : Ref sig .tc := ⟨.hbm, 180, rfl⟩
abbrev main_call3_v8 : Ref sig .tc := ⟨.hbm, 181, rfl⟩
abbrev main_call3_v9 : Ref sig .tc := ⟨.hbm, 182, rfl⟩
abbrev main_call3_v10 : Ref sig .tc := ⟨.hbm, 183, rfl⟩
abbrev main_call3_v11 : Ref sig .tc := ⟨.hbm, 184, rfl⟩
abbrev main_call3_c_3 : Ref sig .tc := ⟨.hbm, 185, rfl⟩
abbrev main_call3_v12 : Ref sig .tc := ⟨.hbm, 186, rfl⟩
abbrev main_call3_v13 : Ref sig .tc := ⟨.hbm, 187, rfl⟩
abbrev main_call3_c_4 : Ref sig .tc := ⟨.hbm, 188, rfl⟩
abbrev main_call3_v14 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_call4_c : Ref sig .tc := ⟨.hbm, 195, rfl⟩
abbrev main_call4_v0 : Ref sig .tc := ⟨.hbm, 196, rfl⟩
abbrev main_call4_v1 : Ref sig .tc := ⟨.hbm, 197, rfl⟩
abbrev main_call4_c_0 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_call4_v5 : Ref sig .tc := ⟨.hbm, 202, rfl⟩
abbrev main_call4_c_1 : Ref sig .tc := ⟨.hbm, 203, rfl⟩
abbrev main_call4_c_2 : Ref sig .tc := ⟨.hbm, 204, rfl⟩
abbrev main_call4_v6 : Ref sig .tc := ⟨.hbm, 205, rfl⟩
abbrev main_call4_v7 : Ref sig .tc := ⟨.hbm, 206, rfl⟩
abbrev main_call4_v8 : Ref sig .tc := ⟨.hbm, 207, rfl⟩
abbrev main_call4_v9 : Ref sig .tc := ⟨.hbm, 208, rfl⟩
abbrev main_call4_v10 : Ref sig .tc := ⟨.hbm, 209, rfl⟩
abbrev main_call4_v11 : Ref sig .tc := ⟨.hbm, 210, rfl⟩
abbrev main_call4_c_3 : Ref sig .tc := ⟨.hbm, 211, rfl⟩
abbrev main_call4_v12 : Ref sig .tc := ⟨.hbm, 212, rfl⟩
abbrev main_call4_v13 : Ref sig .tc := ⟨.hbm, 213, rfl⟩
abbrev main_call4_cst : Ref sig .tc := ⟨.hbm, 214, rfl⟩
abbrev main_call4_v14 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_call5_c : Ref sig .tc := ⟨.hbm, 219, rfl⟩
abbrev main_call5_v0 : Ref sig .tc := ⟨.hbm, 220, rfl⟩
abbrev main_call5_v1 : Ref sig .tc := ⟨.hbm, 221, rfl⟩
abbrev main_call5_c_0 : Ref sig .tc := ⟨.hbm, 222, rfl⟩
abbrev main_call5_v2 : Ref sig .tc := ⟨.hbm, 223, rfl⟩
abbrev main_call5_v3 : Ref sig .tc := ⟨.hbm, 224, rfl⟩
abbrev main_call5_v4 : Ref sig .tc := ⟨.hbm, 225, rfl⟩
abbrev main_call5_c_1 : Ref sig .tc := ⟨.hbm, 226, rfl⟩
abbrev main_call5_c_2 : Ref sig .tc := ⟨.hbm, 227, rfl⟩
abbrev main_call5_v5 : Ref sig .tc := ⟨.hbm, 228, rfl⟩
abbrev main_call5_v6 : Ref sig .tc := ⟨.hbm, 229, rfl⟩
abbrev main_call5_v7 : Ref sig .tc := ⟨.hbm, 230, rfl⟩
abbrev main_call5_v8 : Ref sig .tc := ⟨.hbm, 231, rfl⟩
abbrev main_call5_v9 : Ref sig .tc := ⟨.hbm, 232, rfl⟩
abbrev main_call5_v10 : Ref sig .tc := ⟨.hbm, 233, rfl⟩
abbrev main_call5_c_3 : Ref sig .tc := ⟨.hbm, 234, rfl⟩
abbrev main_call5_v11 : Ref sig .tc := ⟨.hbm, 235, rfl⟩
abbrev main_call5_v12 : Ref sig .tc := ⟨.hbm, 236, rfl⟩
abbrev main_call5_v13 : Ref sig .tc := ⟨.hbm, 237, rfl⟩
abbrev main_call5_cst : Ref sig .tc := ⟨.hbm, 238, rfl⟩
abbrev main_call5_v14 : Ref sig .tc := ⟨.hbm, 239, rfl⟩
abbrev main_v125 : Ref sig .tc := ⟨.hbm, 240, rfl⟩
abbrev main_cst_31 : Ref sig .tc := ⟨.hbm, 241, rfl⟩
abbrev main_v126 : Ref sig .tc := ⟨.hbm, 242, rfl⟩
abbrev main_cst_32 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_cst_33 : Ref sig .tc := ⟨.hbm, 250, rfl⟩
abbrev main_v133 : Ref sig .tc := ⟨.hbm, 251, rfl⟩
abbrev main_cst_34 : Ref sig .tc := ⟨.hbm, 252, rfl⟩
abbrev main_v134 : Ref sig .tc := ⟨.hbm, 253, rfl⟩
abbrev main_v135 : Ref sig .tc := ⟨.hbm, 254, rfl⟩
abbrev main_v136 : Ref sig .tc := ⟨.hbm, 255, rfl⟩
abbrev main_c_35 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_values_36 : Ref sig .tc := ⟨.hbm, 260, rfl⟩
abbrev main_indices_37 : Ref sig .tc := ⟨.hbm, 261, rfl⟩
abbrev main_call6_c : Ref sig .tc := ⟨.hbm, 262, rfl⟩
abbrev main_call6_v0 : Ref sig .tc := ⟨.hbm, 263, rfl⟩
abbrev main_call6_v1 : Ref sig .tc := ⟨.hbm, 264, rfl⟩
abbrev main_call6_c_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_v5 : Ref sig .tc := ⟨.hbm, 269, rfl⟩
abbrev main_call6_c_1 : Ref sig .tc := ⟨.hbm, 270, rfl⟩
abbrev main_call6_c_2 : Ref sig .tc := ⟨.hbm, 271, rfl⟩
abbrev main_call6_v6 : Ref sig .tc := ⟨.hbm, 272, rfl⟩
abbrev main_call6_v7 : Ref sig .tc := ⟨.hbm, 273, rfl⟩
abbrev main_call6_v8 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_call6_c_3 : Ref sig .tc := ⟨.hbm, 278, rfl⟩
abbrev main_call6_v12 : Ref sig .tc := ⟨.hbm, 279, rfl⟩
abbrev main_call6_v13 : Ref sig .tc := ⟨.hbm, 280, rfl⟩
abbrev main_call6_c_4 : Ref sig .tc := ⟨.hbm, 281, rfl⟩
abbrev main_call6_v14 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_call7_c : Ref sig .tc := ⟨.hbm, 288, rfl⟩
abbrev main_call7_v0 : Ref sig .tc := ⟨.hbm, 289, rfl⟩
abbrev main_call7_v1 : Ref sig .tc := ⟨.hbm, 290, rfl⟩
abbrev main_call7_c_0 : Ref sig .tc := ⟨.hbm, 291, rfl⟩
abbrev main_call7_v2 : Ref sig .tc := ⟨.hbm, 292, rfl⟩
abbrev main_call7_v3 : Ref sig .tc := ⟨.hbm, 293, rfl⟩
abbrev main_call7_v4 : Ref sig .tc := ⟨.hbm, 294, rfl⟩
abbrev main_call7_v5 : Ref sig .tc := ⟨.hbm, 295, rfl⟩
abbrev main_call7_c_1 : Ref sig .tc := ⟨.hbm, 296, rfl⟩
abbrev main_call7_c_2 : Ref sig .tc := ⟨.hbm, 297, rfl⟩
abbrev main_call7_v6 : Ref sig .tc := ⟨.hbm, 298, rfl⟩
abbrev main_call7_v7 : Ref sig .tc := ⟨.hbm, 299, rfl⟩
abbrev main_call7_v8 : Ref sig .tc := ⟨.hbm, 300, rfl⟩
abbrev main_call7_v9 : Ref sig .tc := ⟨.hbm, 301, rfl⟩
abbrev main_call7_v10 : Ref sig .tc := ⟨.hbm, 302, rfl⟩
abbrev main_call7_v11 : Ref sig .tc := ⟨.hbm, 303, rfl⟩
abbrev main_call7_c_3 : Ref sig .tc := ⟨.hbm, 304, rfl⟩
abbrev main_call7_v12 : Ref sig .tc := ⟨.hbm, 305, rfl⟩
abbrev main_call7_v13 : Ref sig .tc := ⟨.hbm, 306, rfl⟩
abbrev main_call7_cst : Ref sig .tc := ⟨.hbm, 307, rfl⟩
abbrev main_call7_v14 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_call8_c : Ref sig .tc := ⟨.hbm, 312, rfl⟩
abbrev main_call8_v0 : Ref sig .tc := ⟨.hbm, 313, rfl⟩
abbrev main_call8_v1 : Ref sig .tc := ⟨.hbm, 314, rfl⟩
abbrev main_call8_c_0 : Ref sig .tc := ⟨.hbm, 315, rfl⟩
abbrev main_call8_v2 : Ref sig .tc := ⟨.hbm, 316, rfl⟩
abbrev main_call8_v3 : Ref sig .tc := ⟨.hbm, 317, rfl⟩
abbrev main_call8_v4 : Ref sig .tc := ⟨.hbm, 318, rfl⟩
abbrev main_call8_c_1 : Ref sig .tc := ⟨.hbm, 319, rfl⟩
abbrev main_call8_c_2 : Ref sig .tc := ⟨.hbm, 320, rfl⟩
abbrev main_call8_v5 : Ref sig .tc := ⟨.hbm, 321, rfl⟩
abbrev main_call8_v6 : Ref sig .tc := ⟨.hbm, 322, rfl⟩
abbrev main_call8_v7 : Ref sig .tc := ⟨.hbm, 323, rfl⟩
abbrev main_call8_v8 : Ref sig .tc := ⟨.hbm, 324, rfl⟩
abbrev main_call8_v9 : Ref sig .tc := ⟨.hbm, 325, rfl⟩
abbrev main_call8_v10 : Ref sig .tc := ⟨.hbm, 326, rfl⟩
abbrev main_call8_c_3 : Ref sig .tc := ⟨.hbm, 327, rfl⟩
abbrev main_call8_v11 : Ref sig .tc := ⟨.hbm, 328, rfl⟩
abbrev main_call8_v12 : Ref sig .tc := ⟨.hbm, 329, rfl⟩
abbrev main_call8_v13 : Ref sig .tc := ⟨.hbm, 330, rfl⟩
abbrev main_call8_cst : Ref sig .tc := ⟨.hbm, 331, rfl⟩
abbrev main_call8_v14 : Ref sig .tc := ⟨.hbm, 332, rfl⟩
abbrev main_v148 : Ref sig .tc := ⟨.hbm, 333, rfl⟩
abbrev main_cst_38 : Ref sig .tc := ⟨.hbm, 334, rfl⟩
abbrev main_v149 : Ref sig .tc := ⟨.hbm, 335, rfl⟩
abbrev main_cst_39 : Ref sig .tc := ⟨.hbm, 336, rfl⟩
abbrev main_v150 : Ref sig .tc := ⟨.hbm, 337, rfl⟩
abbrev main_v151 : Ref sig .tc := ⟨.hbm, 338, rfl⟩
abbrev main_v152 : Ref sig .tc := ⟨.hbm, 339, rfl⟩

abbrev nD : Nat := 1
abbrev τ : Topo := Topo.v7x

variable {F : FTy → Type} [FloatOps F]
-- ==== Proof.Vals.lean ====
/- What one grid point of the kernel computes, as pure functions of its input blocks: the values the body's parts hand to
   one another, the contents it stores into each output block, and the three words it stores in the index scratch. The
   definitions are read at any value instance. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

variable {F : FTy → Type} [FloatOps F] [Named F]

/-- The eleven blocks a grid point reads. -/
structure Blocks (F : FTy → Type) where
  x1 : Vec F S1x10x32x2048 .f32
  x2 : Vec F S2048x512 .f32
  x3 : Vec F S2048x512 .f32
  x4 : Vec F S2048x512 .f32
  x5 : Vec F S512x2048 .f32
  x6 : Vec F S2048x512 .f32
  x7 : Vec F S1x512 .f32
  x8 : Vec F S512x128 .f32
  x9 : Vec F S1x128 .f32
  x10 : Vec F S1x128 .f32
  x11 : Vec F S1x1 .f32

variable (B : Blocks F)

/-- The query, key and value projections of the ten crops, one above the other. -/
def v5 : FVec F S320x512 .f32 := k0_pay7 B.x1 B.x2
@[inherit_doc v5] def v7 : FVec F S320x512 .f32 := k0_pay8 B.x1 B.x3
@[inherit_doc v5] def v9 : FVec F S320x512 .f32 := k0_pay9 B.x1 B.x4
/-- The attention's output of the first crop; the next nine follow. -/
def v28 : FVec F S32x512 .f32 := k0_pay10 B.x1 B.x2 B.x3 B.x4
@[inherit_doc v28] def v47 : FVec F S32x512 .f32 := k0_pay13 (k0_pay11 B.x1 B.x4) (k0_pay12 B.x1 B.x2 B.x3)
@[inherit_doc v28] def v66 : FVec F S32x512 .f32 := k0_pay14 (v5 B) (v7 B) (v9 B)
@[inherit_doc v28] def v85 : FVec F S32x512 .f32 := k0_pay18 (k0_pay15 (v9 B)) (k0_pay16 (v5 B) (v7 B)) (k0_pay17 (v5 B) (v7 B))
@[inherit_doc v28] def v104 : FVec F S32x512 .f32 := k0_pay19 (v5 B) (v7 B) (v9 B)
@[inherit_doc v28] def v123 : FVec F S32x512 .f32 := k0_pay20 (v5 B) (v7 B) (v9 B)
@[inherit_doc v28] def v142 : FVec F S32x512 .f32 :=
  k0_pay24 (k0_pay21 (v5 B)) (k0_pay22 (v9 B)) (k0_pay23 (v7 B)) (constant S32x32 .f32 0x00000000#32)
@[inherit_doc v28] def v161 : FVec F S32x512 .f32 := k0_pay25 (v5 B) (v7 B) (v9 B)

/-- The features: attention output projected back, the input added, cut at zero. -/
def v205 : FVec F S320x2048 .f32 :=
  k0_pay29 (k0_pay6 B.x1) (v5 B) (v7 B) (v9 B) (v28 B) (v47 B) (v66 B) (v85 B) (v104 B) (v123 B) (v142 B) (v161 B)
    (k0_pay26 (v9 B)) (k0_pay27 (v5 B) (v7 B)) (k0_pay28 (v5 B) (v7 B)) B.x5
/-- The first layer of the score network. -/
def v213 : FVec F S320x512 .f32 :=
  k0_pay30 (k0_pay6 B.x1) (v5 B) (v7 B) (v9 B) (v28 B) (v47 B) (v66 B) (v85 B) (v104 B) (v123 B) (v142 B) (v161 B)
    (k0_pay26 (v9 B)) (k0_pay27 (v5 B) (v7 B)) (k0_pay28 (v5 B) (v7 B)) B.x5 B.x6 B.x7
/-- The scores of the thirty-two frames, averaged over the crops. -/
def v236 : FVec F S32 .f32 := k0_pay31 (v213 B) B.x8 B.x9 B.x10 B.x11
/-- The block of scores the body stores. -/
def scoresP : FVec F S1x1x32 .f32 := k0_pay32 (v213 B) B.x8 B.x9 B.x10 B.x11

/-- Which half of the grid a point lies in: one for the first eight points. -/
def phase (i : grid0.Coords) : BitVec 1 := Scalar.cmpi .slt (BitVec.ofNat 32 (i 0).val) 8#32

variable (p : BitVec 1)

/-- The magnitudes over the temperature, and their largest value per crop. -/
def v248 : FVec F S10x32 .f32 := k0_pay33 p (v205 B)
@[inherit_doc v248] def v251 : FVec F S10 .f32 := k0_pay34 p (v205 B)
/-- The weighted features the body keeps in its scratch. -/
def distP : FVec F S10x32x2048 .f32 := k0_pay36 (v205 B) (v248 B p) (v251 B p)
/-- The block of the four largest weighted features the body stores. -/
def topkP : FVec F S1x10x32x4 .f32 :=
  k0_pay43 (iota .tc S320x2048 32 [1] iota_S320x2048_d1_w32) (k0_pay38 (v205 B) (v248 B p) (v251 B p))
    (k0_pay40 (v205 B) (v248 B p) (v251 B p)) (k0_pay41 (v205 B) (v248 B p) (v251 B p)) (k0_pay42 (v205 B) (v248 B p) (v251 B p))

/-- The frame the first choice picks, as the word stored in the index scratch; the second and the third follow. -/
def idx0 : BitVec 32 := Scalar.addi (extractAt ![0, 0, 0] (k0_pay3 (v205 B)) inpos_S1x1x1_p0_0_0) 3#32
@[inherit_doc idx0] def idx1 : BitVec 32 := Scalar.addi (extractAt ![0, 0, 0] (k0_pay5 (v205 B)) inpos_S1x1x1_p0_0_0) 3#32
@[inherit_doc idx0] def idx2 : BitVec 32 :=
  Scalar.addi (extractAt ![0, 0, 0] (k0_pay44 (iota .tc S1x29 32 [1] iota_S1x29_d1_w32) (k0_pay4 (v205 B))
      (extractAt ![0, 0, 0] (k0_pay5 (v205 B)) inpos_S1x1x1_p0_0_0)) inpos_S1x1x1_p0_0_0) 3#32
/-- The three words together. -/
def idxP : Fin 3 → BitVec 32 := ![idx0 B, idx1 B, idx2 B]

variable (w : Fin 3 → BitVec 32)

/-- The mean of the chosen frames' scores, broadcast over the lanes. -/
def selP : FVec F S1x1x128 .f32 :=
  k0_pay1 (k0_pay50 (iota .tc S1x32 32 [1] iota_S1x32_d1_w32) (k0_pay45 (v236 B)) (k0_pay47 (v236 B) (w 0)) (w 1) (w 2))

end Cert.KernelIdeal.Hand

end
-- ==== Proof.Cells.lean ====
/- The two scratch buffers: the words the body stores and reads back one by one, and the rows it reads at them. -/
module

public import proofs.«01_k».proof.Proof.Vals
public import Idealize.ShloMosaic.Lib.Pipeline.Frame
public import Idealize.ShloMosaic.Lib.Tactic
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- The two scratch buffers, whole. -/
abbrev sc0 : Memref sig .tc .vmem S10x32x2048 .f32 := Memref.whole cc0_scratch0
@[inherit_doc sc0] abbrev sc1 : Memref sig .tc .smem S8x3 .i32 := Memref.whole cc0_scratch1

/-! ## Where the words are read: row `i` in the first half of the grid, row `i - 8` in the second -/

/-- The offsets of the read of word 0. -/
theorem off4_lo : ∀ i : grid0.Coords, ¬ k0_cond1 i = 1#1 → k0_off4 i = ![(i 0).val - 8, 0] := by decide +kernel
instance closedOff4_lo (i : grid0.Coords) [h : Fact (¬ k0_cond1 i = 1#1)] : ClosedOff (k0_off4 i) := ⟨![(i 0).val - 8, 0], off4_lo i h.out⟩

/-- The offsets of the read of word 1. -/
theorem off6_lo : ∀ i : grid0.Coords, ¬ k0_cond1 i = 1#1 → k0_off6 i = ![(i 0).val - 8, 1] := by decide +kernel
instance closedOff6_lo (i : grid0.Coords) [h : Fact (¬ k0_cond1 i = 1#1)] : ClosedOff (k0_off6 i) := ⟨![(i 0).val - 8, 1], off6_lo i h.out⟩

/-- The offsets of the read of word 2. -/
theorem off8_lo : ∀ i : grid0.Coords, ¬ k0_cond1 i = 1#1 → k0_off8 i = ![(i 0).val - 8, 2] := by decide +kernel
instance closedOff8_lo (i : grid0.Coords) [h : Fact (¬ k0_cond1 i = 1#1)] : ClosedOff (k0_off8 i) := ⟨![(i 0).val - 8, 2], off8_lo i h.out⟩

/-- The offsets of the read of word 0. -/
theorem off4_hi : ∀ i : grid0.Coords, k0_cond1 i = 1#1 → k0_off4 i = ![(i 0).val, 0] := by decide +kernel
instance closedOff4_hi (i : grid0.Coords) [h : Fact (k0_cond1 i = 1#1)] : ClosedOff (k0_off4 i) := ⟨![(i 0).val, 0], off4_hi i h.out⟩

/-- The offsets of the read of word 1. -/
theorem off6_hi : ∀ i : grid0.Coords, k0_cond1 i = 1#1 → k0_off6 i = ![(i 0).val, 1] := by decide +kernel
instance closedOff6_hi (i : grid0.Coords) [h : Fact (k0_cond1 i = 1#1)] : ClosedOff (k0_off6 i) := ⟨![(i 0).val, 1], off6_hi i h.out⟩

/-- The offsets of the read of word 2. -/
theorem off8_hi : ∀ i : grid0.Coords, k0_cond1 i = 1#1 → k0_off8 i = ![(i 0).val, 2] := by decide +kernel
instance closedOff8_hi (i : grid0.Coords) [h : Fact (k0_cond1 i = 1#1)] : ClosedOff (k0_off8 i) := ⟨![(i 0).val, 2], off8_hi i h.out⟩

/-- A word under thirty-two passes the check of the read it addresses. -/
theorem chk1_of {v : BitVec 32} (h : v.toNat < 32) : k0_chk1 v := by
  intro a; fin_cases a <;> simp [k0_off5, Scalar.indexCast] <;> omega
@[inherit_doc chk1_of] theorem chk2_of {v : BitVec 32} (h : v.toNat < 32) : k0_chk2 v := chk1_of h
@[inherit_doc chk1_of] theorem chk3_of {v : BitVec 32} (h : v.toNat < 32) : k0_chk3 v := chk1_of h

/-- Under a one-cell write the written word is read. -/
theorem cell_hit {off : Fin 2 → ℕ} {inb : ∀ a, off a + S1x1.size a ≤ S8x3.size a} (a : Elt F .i32)
    (L : List (View.Piece (Elt F) S8x3 .i32)) (y : S8x3.Idx) (h : ∀ k, (y k).val = off k) :
    View.canon (⟨Rect.unit (s := S8x3) off S1x1.size inb, fun _ => a⟩ :: L) y = a := by
  have hm : y ∈ (Rect.unit (s := S8x3) off S1x1.size inb).set := Rect.mem_set_unit.mpr fun k => by
    have h1 : S1x1.size k = 1 := by fin_cases k <;> rfl
    have := h k
    constructor <;> omega
  obtain ⟨x, rfl⟩ := (Rect.unit (s := S8x3) off S1x1.size inb).exists_idx_of_mem hm
  exact View.canon_cons_emb _ _ L x

/-- Off a one-cell write the earlier writes are read. -/
theorem cell_miss {off : Fin 2 → ℕ} {inb : ∀ a, off a + S1x1.size a ≤ S8x3.size a} (w)
    (L : List (View.Piece (Elt F) S8x3 .i32)) (y : S8x3.Idx) (k : Fin 2) (h : (y k).val ≠ off k) :
    View.canon (⟨Rect.unit (s := S8x3) off S1x1.size inb, w⟩ :: L) y = View.canon L y :=
  View.canon_cons_of_not_mem _ L fun hm => by
    have h2 : y ∈ (Rect.unit (s := S8x3) off S1x1.size inb).set := hm
    have := Rect.mem_set_unit.mp h2 k
    have h1 : S1x1.size k = 1 := by fin_cases k <;> rfl
    omega

/-- The one place a one-cell load reads. -/
theorem cell_at {off : Fin 2 → ℕ} {inb : ∀ a, off a + S1x1.size a ≤ S8x3.size a} (j : (Rect.unit (s := S8x3) off S1x1.size inb).shape.Idx) (k : Fin 2) :
    ((Rect.unit (s := S8x3) off S1x1.size inb).toLoadRect.idx j k).val = off k := by
  have h1 := Rect.mem_set_unit.mp (((Rect.unit (s := S8x3) off S1x1.size inb).toLoadRect.idx_mem j)) k
  have h1 : S1x1.size k = 1 := by fin_cases k <;> rfl
  omega

/-- What the three stored words read back as, one by one. -/
theorem back0 (i : grid0.Coords) (hi : k0_cond1 i = 1#1) (a b d : Elt F .i32) {h1 h2 h3 h4} (j) :
    sc1.view.readCov (Val := Elt F) [⟨Rect.unit (s := S8x3) (k0_off3 i) S1x1.size h3, fun _ => d⟩, ⟨Rect.unit (s := S8x3) (k0_off2 i) S1x1.size h2, fun _ => b⟩,
      ⟨Rect.unit (s := S8x3) (k0_off1 i) S1x1.size h1, fun _ => a⟩] (Rect.unit (s := S8x3) (k0_off4 i) S1x1.size h4).toLoadRect j = a := by
  rw [View.readCov_eq_canon']
  have hj : ∀ k, ((Rect.unit (s := S8x3) (k0_off4 i) S1x1.size h4).toLoadRect.idx j k).val = (![(i 0).val, 0] : Fin 2 → ℕ) k := fun k => (cell_at j k).trans (congrFun (off4_hi i hi) k)
  show View.canon _ _ = a
  rw [cell_miss _ _ _ 1 (by rw [hj, k0_off3_eq]; simp), cell_miss _ _ _ 1 (by rw [hj, k0_off2_eq]; simp)]
  exact cell_hit _ _ _ fun k => by rw [hj, k0_off1_eq]
@[inherit_doc back0] theorem back1 (i : grid0.Coords) (hi : k0_cond1 i = 1#1) (a b d : Elt F .i32) {h1 h2 h3 h4} (j) :
    sc1.view.readCov (Val := Elt F) [⟨Rect.unit (s := S8x3) (k0_off3 i) S1x1.size h3, fun _ => d⟩, ⟨Rect.unit (s := S8x3) (k0_off2 i) S1x1.size h2, fun _ => b⟩,
      ⟨Rect.unit (s := S8x3) (k0_off1 i) S1x1.size h1, fun _ => a⟩] (Rect.unit (s := S8x3) (k0_off6 i) S1x1.size h4).toLoadRect j = b := by
  rw [View.readCov_eq_canon']
  have hj : ∀ k, ((Rect.unit (s := S8x3) (k0_off6 i) S1x1.size h4).toLoadRect.idx j k).val = (![(i 0).val, 1] : Fin 2 → ℕ) k := fun k => (cell_at j k).trans (congrFun (off6_hi i hi) k)
  show View.canon _ _ = b
  rw [cell_miss _ _ _ 1 (by rw [hj, k0_off3_eq]; simp)]
  exact cell_hit _ _ _ fun k => by rw [hj, k0_off2_eq]
@[inherit_doc back0] theorem back2 (i : grid0.Coords) (hi : k0_cond1 i = 1#1) (a b d : Elt F .i32) {h1 h2 h3 h4} (j) :
    sc1.view.readCov (Val := Elt F) [⟨Rect.unit (s := S8x3) (k0_off3 i) S1x1.size h3, fun _ => d⟩, ⟨Rect.unit (s := S8x3) (k0_off2 i) S1x1.size h2, fun _ => b⟩,
      ⟨Rect.unit (s := S8x3) (k0_off1 i) S1x1.size h1, fun _ => a⟩] (Rect.unit (s := S8x3) (k0_off8 i) S1x1.size h4).toLoadRect j = d := by
  rw [View.readCov_eq_canon']
  have hj : ∀ k, ((Rect.unit (s := S8x3) (k0_off8 i) S1x1.size h4).toLoadRect.idx j k).val = (![(i 0).val, 2] : Fin 2 → ℕ) k := fun k => (cell_at j k).trans (congrFun (off8_hi i hi) k)
  show View.canon _ _ = d
  exact cell_hit _ _ _ fun k => by rw [hj, k0_off3_eq]

 /-- Rewriting a word's range along an equality. -/
theorem lt_of_eq' {v w : BitVec 32} (e : v = w) (h : w.toNat < 32) : v.toNat < 32 := e ▸ h

/-- The row of the weighted features a word addresses. -/
def rowAt (D : Vec F S10x32x2048 .f32) (w : BitVec 32) : Vec F S10x1x2048 .f32 :=
  if h : k0_chk1 w then View.ld (Val := Elt F) D (Rect.unit (s := S10x32x2048) (k0_off5 w) S10x1x2048.size (k0_off5_inb w h))
  else fun _ => FloatOps.ofBits .f32 0x00000000#32

/-- The block of the three chosen rows the body stores. -/
def featP (D : Vec F S10x32x2048 .f32) (w : Fin 3 → BitVec 32) : Vec F S1x3x10x2048 .f32 :=
  View.canon (Val := Elt F)
    [⟨Rect.unit (s := S1x3x10x2048) ![0, 2, 0, 0] S1x1x10x2048.size inb_S1x3x10x2048_S1x1x10x2048_0_2_0_0, k0_pay49 (rowAt D (w 2))⟩,
     ⟨Rect.unit (s := S1x3x10x2048) ![0, 1, 0, 0] S1x1x10x2048.size inb_S1x3x10x2048_S1x1x10x2048_0_1_0_0, k0_pay48 (rowAt D (w 1))⟩,
     ⟨Rect.unit (s := S1x3x10x2048) ![0, 0, 0, 0] S1x1x10x2048.size inb_S1x3x10x2048_S1x1x10x2048_0_0_0_0, k0_pay46 (rowAt D (w 0))⟩]

/-- A row read back from the scratch the weighted features were stored in whole. -/
theorem row_back (D : Vec F S10x32x2048 .f32) (w r : BitVec 32) (e : r = w) (h : k0_chk1 r)
    (inb : ∀ a, (![0, 0, 0] : Fin 3 → ℕ) a + S10x32x2048.size a ≤ S10x32x2048.size a) :
    sc0.view.readCov (Val := Elt F) [⟨Rect.unit (s := S10x32x2048) ![0, 0, 0] S10x32x2048.size inb, D⟩]
      (Rect.unit (s := S10x32x2048) (k0_off5 r) S10x1x2048.size (k0_off5_inb r h)).toLoadRect = rowAt D w := by
  subst e
  rw [View.readCov_eq_canon', View.canon_cons_unit_lit (S := S10x32x2048) (off := ![0, 0, 0]) inb D [] (by decide), rowAt, dif_pos h]

/-- The index scratch with row `r` overwritten by three words. -/
def putRow (f : Vec F S8x3 .i32) (r : ℕ) (w : Fin 3 → BitVec 32) : Vec F S8x3 .i32 :=
  fun y => if (y 0).val = r then w (y 1) else f y

/-- Under a one-cell write the buffer reads the written word. -/
theorem put_hit {off : Fin 2 → ℕ} {inb : ∀ a, off a + S1x1.size a ≤ S8x3.size a} (a : Elt F .i32) (g : sc1.view.ty.Contents (Elt F))
    (L : List (View.Piece (Elt F) S8x3 .i32)) (y : S8x3.Idx) (h : ∀ k, (y k).val = off k) :
    sc1.view.read (Elt F) (sc1.view.writes (Elt F) g (⟨Rect.unit (s := S8x3) off S1x1.size inb, fun _ => a⟩ :: L)) y = a := by
  have hm : y ∈ (Rect.unit (s := S8x3) off S1x1.size inb).set := Rect.mem_set_unit.mpr fun k => by
    have h1 : S1x1.size k = 1 := by fin_cases k <;> rfl
    have := h k
    constructor <;> omega
  obtain ⟨x, rfl⟩ := (Rect.unit (s := S8x3) off S1x1.size inb).exists_idx_of_mem hm
  exact View.read_writes_cons_emb _ _ _ _ _ _

/-- Off a one-cell write the buffer reads what it did. -/
theorem put_miss {off : Fin 2 → ℕ} {inb : ∀ a, off a + S1x1.size a ≤ S8x3.size a} (w) (g : sc1.view.ty.Contents (Elt F))
    (L : List (View.Piece (Elt F) S8x3 .i32)) (y : S8x3.Idx) (k : Fin 2) (h : (y k).val ≠ off k) :
    sc1.view.read (Elt F) (sc1.view.writes (Elt F) g (⟨Rect.unit (s := S8x3) off S1x1.size inb, w⟩ :: L)) y
      = sc1.view.read (Elt F) (sc1.view.writes (Elt F) g L) y := by
  have hy : y ∉ (Rect.unit (s := S8x3) off S1x1.size inb).set := fun h2 => by
    have := Rect.mem_set_unit.mp h2 k
    have h1 : S1x1.size k = 1 := by fin_cases k <;> rfl
    omega
  rw [View.writes_cons, View.read_slice_write_of_not_mem _ _ _ _ (by rwa [Rect.map_emb_univ])]

/-- What the three stores leave in the index scratch. -/
theorem put_back (i : grid0.Coords) (w : Fin 3 → BitVec 32) (g : sc1.view.ty.Contents (Elt F)) {h1 h2 h3} :
    sc1.view.read (Elt F) (sc1.view.writes (Elt F) g [⟨Rect.unit (s := S8x3) (k0_off3 i) S1x1.size h3, fun _ => w 2⟩,
      ⟨Rect.unit (s := S8x3) (k0_off2 i) S1x1.size h2, fun _ => w 1⟩,
      ⟨Rect.unit (s := S8x3) (k0_off1 i) S1x1.size h1, fun _ => w 0⟩]) = putRow (F := F) (sc1.view.read (Elt F) g) (i 0).val w := by
  funext y
  have hy : (y 1).val = 0 ∨ (y 1).val = 1 ∨ (y 1).val = 2 := by
    have : (y 1).val < 3 := (y 1).isLt
    omega
  unfold putRow
  by_cases h0 : (y 0).val = (i 0).val
  · rw [if_pos h0]
    rcases hy with hy | hy | hy
    · rw [put_miss _ _ _ _ 1 (by rw [k0_off3_eq, hy]; simp), put_miss _ _ _ _ 1 (by rw [k0_off2_eq, hy]; simp),
        show w (y 1) = w 0 from congrArg w (Fin.ext hy)]
      exact put_hit _ _ _ _ fun k => by rw [k0_off1_eq]; fin_cases k; exacts [h0, hy]
    · rw [put_miss _ _ _ _ 1 (by rw [k0_off3_eq, hy]; simp), show w (y 1) = w 1 from congrArg w (Fin.ext hy)]
      exact put_hit _ _ _ _ fun k => by rw [k0_off2_eq]; fin_cases k; exacts [h0, hy]
    · rw [show w (y 1) = w 2 from congrArg w (Fin.ext hy)]
      exact put_hit _ _ _ _ fun k => by rw [k0_off3_eq]; fin_cases k; exacts [h0, hy]
  · rw [if_neg h0, put_miss _ _ _ _ 0 (by rw [k0_off3_eq]; exact h0), put_miss _ _ _ _ 0 (by rw [k0_off2_eq]; exact h0),
      put_miss _ _ _ _ 0 (by rw [k0_off1_eq]; exact h0)]
    rfl

/-- The word a one-cell load finds, from what the row it reads holds. -/
theorem word_at {off : Fin 2 → ℕ} {inb : ∀ a, off a + S1x1.size a ≤ S8x3.size a} (g : sc1.view.ty.Contents (Elt F)) (w : Fin 3 → BitVec 32)
    (r : ℕ) (k : Fin 3) (ho : off = ![r, k.val]) (hw : ∀ y : S8x3.Idx, (y 0).val = r → sc1.view.read (Elt F) g y = w (y 1)) (j) :
    sc1.view.readAt (Elt F) (Rect.unit (s := S8x3) off S1x1.size inb).toLoadRect g j = w k := by
  have h := cell_at (off := off) (inb := inb) j
  refine (hw ((Rect.unit (s := S8x3) off S1x1.size inb).toLoadRect.idx j) ((h 0).trans (by rw [ho]; rfl))).trans ?_
  exact congrArg w (Fin.ext ((h 1).trans (by rw [ho]; rfl)))

/-- What one store through the whole buffer leaves. -/
theorem whole_back {S : Shape} {e : EltTy} {κ : Kind} {sp : Space} (v : View sig κ sp S e) (f : v.ty.Contents (Elt F)) {off : Fin S.rank → ℕ}
    (inb : ∀ a, off a + S.size a ≤ S.size a) (w : S.Idx → Elt F e) (h : ∀ a, off a = 0) :
    v.read (Elt F) (v.writes (Elt F) f [⟨Rect.unit off S.size inb, w⟩]) = w := by
  rw [View.read_writes_eq_canon]
  · exact View.canon_cons_unit_lit inb w [] h
  · intro y
    have hm : y ∈ (Rect.unit off S.size inb).set := Rect.mem_set_unit.mpr fun a => by
      rw [h a]; exact ⟨Nat.zero_le _, by rw [Nat.zero_add]; exact (y a).isLt⟩
    exact ⟨_, List.mem_cons_self, hm⟩

/-- What the three stores leave in the block of chosen rows. -/
theorem feat_back (v : View sig .tc .vmem S1x3x10x2048 .f32) (f : v.ty.Contents (Elt F)) (D : Vec F S10x32x2048 .f32) (w : Fin 3 → BitVec 32)
    (a0 a1 a2 : Vec F S10x1x2048 .f32) (e0 : a0 = rowAt D (w 0)) (e1 : a1 = rowAt D (w 1)) (e2 : a2 = rowAt D (w 2)) :
    v.read (Elt F) (v.writes (Elt F) f
      [⟨Rect.unit (s := S1x3x10x2048) ![0, 2, 0, 0] S1x1x10x2048.size inb_S1x3x10x2048_S1x1x10x2048_0_2_0_0, k0_pay49 a2⟩,
       ⟨Rect.unit (s := S1x3x10x2048) ![0, 1, 0, 0] S1x1x10x2048.size inb_S1x3x10x2048_S1x1x10x2048_0_1_0_0, k0_pay48 a1⟩,
       ⟨Rect.unit (s := S1x3x10x2048) ![0, 0, 0, 0] S1x1x10x2048.size inb_S1x3x10x2048_S1x1x10x2048_0_0_0_0, k0_pay46 a0⟩]) = featP D w := by
  subst e0 e1 e2
  refine View.read_writes_eq_canon _ _ _ ?_
  exact View.cover_of_tiled (s := S1x3x10x2048) _ S1x1x10x2048.size (by rfl)

/-- The stored mean, from the words it is taken at. -/
theorem sel_eq (B : Blocks F) (w : Fin 3 → BitVec 32) {r0 r1 r2 : BitVec 32} (e0 : r0 = w 0) (e1 : r1 = w 1) (e2 : r2 = w 2) :
    k0_pay1 (k0_pay50 (iota .tc S1x32 32 [1] iota_S1x32_d1_w32) (k0_pay45 (v236 B)) (k0_pay47 (v236 B) r0) r1 r2) = selP B w := by
  subst e0 e1 e2; rfl

end Cert.KernelIdeal.Hand

end
-- ==== Proof.Skel.lean ====
/- The body as one program: its eleven loads, then what it stores, each stored value the function of the loaded blocks that
   `Vals.lean` names. -/
module

public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]

/-- The body: the loads first, then the stores of the named values. -/
def kern (i : grid0.Coords) (arg1 : Memref sig .tc .vmem S1x10x32x2048 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1 .f32) (harg11 : arg11.IsWhole) (arg12 : Memref sig .tc .vmem S1x10x32x4 .f32) (harg12 : arg12.IsWhole) (arg13 : Memref sig .tc .vmem S1x3x10x2048 .f32) (harg13 : arg13.IsWhole) (arg14 : Memref sig .tc .vmem S1x1x32 .f32) (harg14 : arg14.IsWhole) (arg15 : Memref sig .tc .vmem S1x1x128 .f32) (harg15 : arg15.IsWhole) (arg16 : Memref sig .tc .vmem S10x32x2048 .f32) (harg16 : arg16.IsWhole) (arg17 : Memref sig .tc .smem S8x3 .i32) (harg17 : arg17.IsWhole) :
    Prog (TpuEff nD τ sig (Elt F) Λ₀ .tc) PUnit := do
  let x1 : Vec F S1x10x32x2048 .f32 ← Prog.lift (.load arg1 (Rect.unit (s := S1x10x32x2048) ![0, 0, 0, 0] S1x10x32x2048.size inb_S1x10x32x2048_S1x10x32x2048_0_0_0_0).toLoadRect (View.loadsAt_vmem h_S1x10x32x2048))
  let x2 : Vec F S2048x512 .f32 ← Prog.lift (.load arg2 (Rect.unit (s := S2048x512) ![0, 0] S2048x512.size inb_S2048x512_S2048x512_0_0).toLoadRect (View.loadsAt_vmem h_S2048x512))
  let x3 : Vec F S2048x512 .f32 ← Prog.lift (.load arg3 (Rect.unit (s := S2048x512) ![0, 0] S2048x512.size inb_S2048x512_S2048x512_0_0).toLoadRect (View.loadsAt_vmem h_S2048x512))
  let x4 : Vec F S2048x512 .f32 ← Prog.lift (.load arg4 (Rect.unit (s := S2048x512) ![0, 0] S2048x512.size inb_S2048x512_S2048x512_0_0).toLoadRect (View.loadsAt_vmem h_S2048x512))
  let x5 : Vec F S512x2048 .f32 ← Prog.lift (.load arg5 (Rect.unit (s := S512x2048) ![0, 0] S512x2048.size inb_S512x2048_S512x2048_0_0).toLoadRect (View.loadsAt_vmem h_S512x2048))
  let x6 : Vec F S2048x512 .f32 ← Prog.lift (.load arg6 (Rect.unit (s := S2048x512) ![0, 0] S2048x512.size inb_S2048x512_S2048x512_0_0).toLoadRect (View.loadsAt_vmem h_S2048x512))
  let x7 : Vec F S1x512 .f32 ← Prog.lift (.load arg7 (Rect.unit (s := S1x512) ![0, 0] S1x512.size inb_S1x512_S1x512_0_0).toLoadRect (View.loadsAt_vmem h_S1x512))
  let x8 : Vec F S512x128 .f32 ← Prog.lift (.load arg8 (Rect.unit (s := S512x128) ![0, 0] S512x128.size inb_S512x128_S512x128_0_0).toLoadRect (View.loadsAt_vmem h_S512x128))
  let x9 : Vec F S1x128 .f32 ← Prog.lift (.load arg9 (Rect.unit (s := S1x128) ![0, 0] S1x128.size inb_S1x128_S1x128_0_0).toLoadRect (View.loadsAt_vmem h_S1x128))
  let x10 : Vec F S1x128 .f32 ← Prog.lift (.load arg10 (Rect.unit (s := S1x128) ![0, 0] S1x128.size inb_S1x128_S1x128_0_0).toLoadRect (View.loadsAt_vmem h_S1x128))
  let x11 : Vec F S1x1 .f32 ← Prog.lift (.load arg11 (Rect.unit (s := S1x1) ![0, 0] S1x1.size inb_S1x1_S1x1_0_0).toLoadRect (View.loadsAt_vmem h_S1x1))
  let _y14 : Vec F S1x1x32 .f32 ← Prog.lift (.load arg14 (Rect.unit (s := S1x1x32) ![0, 0, 0] S1x1x32.size inb_S1x1x32_S1x1x32_0_0_0).toLoadRect (View.loadsAt_vmem h_S1x1x32))
  Prog.lift (.store arg14 (Rect.unit (s := S1x1x32) ![0, 0, 0] S1x1x32.size inb_S1x1x32_S1x1x32_0_0_0) (scoresP ⟨x1, x2, x3, x4, x5, x6, x7, x8, x9, x10, x11⟩) Finset.univ (View.stores_vmem_bits_univ h_S1x1x32 rfl) (.inl rfl))
  let _y16 : Vec F S10x32x2048 .f32 ← Prog.lift (.load arg16 (Rect.unit (s := S10x32x2048) ![0, 0, 0] S10x32x2048.size inb_S10x32x2048_S10x32x2048_0_0_0).toLoadRect (View.loadsAt_vmem h_S10x32x2048))
  Prog.lift (.store arg16 (Rect.unit (s := S10x32x2048) ![0, 0, 0] S10x32x2048.size inb_S10x32x2048_S10x32x2048_0_0_0) (distP ⟨x1, x2, x3, x4, x5, x6, x7, x8, x9, x10, x11⟩ (phase i)) Finset.univ (View.stores_vmem_bits_univ h_S10x32x2048 rfl) (.inl rfl))
  let ⟨v317, v318, v319, v333⟩ : Σ' (v317 : BitVec 32) (v318 : IVec S1x32 32) (v319 : FVec F S1x32 .f32), FVec F S1 .f32 ← (do
    let v311 : Vec F S1x10x32x4 .f32 ← Prog.lift (.load arg12 (Rect.unit (s := S1x10x32x4) ![0, 0, 0, 0] S1x10x32x4.size inb_S1x10x32x4_S1x10x32x4_0_0_0_0).toLoadRect (View.loadsAt_vmem h_S1x10x32x4))
    Prog.lift (.store arg12 (Rect.unit (s := S1x10x32x4) ![0, 0, 0, 0] S1x10x32x4.size inb_S1x10x32x4_S1x10x32x4_0_0_0_0) (topkP ⟨x1, x2, x3, x4, x5, x6, x7, x8, x9, x10, x11⟩ (phase i)) Finset.univ (View.stores_vmem_bits_univ h_S1x10x32x4 rfl) (.inl rfl))
    if k0_h1 : k0_cond1 i = 1#1 then do
      let v403 : Elt F .i32 ← smemLoad arg17 (Rect.unit (s := S8x3) (k0_off1 i) S1x1.size (k0_off1_inb i k0_h1)) numel1_S1x1 rfl
      Prog.lift (.store arg17 (Rect.unit (s := S8x3) (k0_off1 i) S1x1.size (k0_off1_inb i k0_h1)) (fun _ => idx0 ⟨x1, x2, x3, x4, x5, x6, x7, x8, x9, x10, x11⟩) Finset.univ (View.stores_smem_one rfl numel1_S1x1) (.inl rfl))
      let v422 : Elt F .i32 ← smemLoad arg17 (Rect.unit (s := S8x3) (k0_off2 i) S1x1.size (k0_off2_inb i k0_h1)) numel1_S1x1 rfl
      Prog.lift (.store arg17 (Rect.unit (s := S8x3) (k0_off2 i) S1x1.size (k0_off2_inb i k0_h1)) (fun _ => idx1 ⟨x1, x2, x3, x4, x5, x6, x7, x8, x9, x10, x11⟩) Finset.univ (View.stores_smem_one rfl numel1_S1x1) (.inl rfl))
      let v441 : Elt F .i32 ← smemLoad arg17 (Rect.unit (s := S8x3) (k0_off3 i) S1x1.size (k0_off3_inb i k0_h1)) numel1_S1x1 rfl
      Prog.lift (.store arg17 (Rect.unit (s := S8x3) (k0_off3 i) S1x1.size (k0_off3_inb i k0_h1)) (fun _ => idx2 ⟨x1, x2, x3, x4, x5, x6, x7, x8, x9, x10, x11⟩) Finset.univ (View.stores_smem_one rfl numel1_S1x1) (.inl rfl))
      pure ⟨⟩
    else do
      pure ⟨⟩
    let v321 : Elt F .i32 ← smemLoad arg17 (Rect.unit (s := S8x3) (k0_off4 i) S1x1.size (k0_off4_inb i)) numel1_S1x1 rfl
    have k0_hw1 : k0_chk1 v321 := (← Prog.lift (TpuEff.assume (k0_chk1 v321) (k0_chk1.dec v321))).down
    let v323 : Vec F S10x1x2048 .f32 ← Prog.lift (.load arg16 (Rect.unit (s := S10x32x2048) (k0_off5 v321) S10x1x2048.size (k0_off5_inb v321 k0_hw1)).toLoadRect (View.loadsAt_vmem h_S10x1x2048))
    let v325 : Vec F S1x1x10x2048 .f32 ← Prog.lift (.load arg13 (Rect.unit (s := S1x3x10x2048) ![0, 0, 0, 0] S1x1x10x2048.size inb_S1x3x10x2048_S1x1x10x2048_0_0_0_0).toLoadRect (View.loadsAt_vmem h_S1x1x10x2048))
    Prog.lift (.store arg13 (Rect.unit (s := S1x3x10x2048) ![0, 0, 0, 0] S1x1x10x2048.size inb_S1x3x10x2048_S1x1x10x2048_0_0_0_0) (k0_pay46 v323) Finset.univ (View.stores_vmem_bits_univ h_S1x1x10x2048 rfl) (.inl rfl))
    pure ⟨Scalar.select (phase i) (BitVec.ofNat 32 (i 0).val) (Scalar.subi (BitVec.ofNat 32 (i 0).val) 8#32), iota .tc S1x32 32 [1] iota_S1x32_d1_w32, k0_pay45 (v236 ⟨x1, x2, x3, x4, x5, x6, x7, x8, x9, x10, x11⟩), k0_pay47 (v236 ⟨x1, x2, x3, x4, x5, x6, x7, x8, x9, x10, x11⟩) v321⟩)
  let v370 : F .f32 ← (do
    let v338 : Elt F .i32 ← smemLoad arg17 (Rect.unit (s := S8x3) (k0_off6 i) S1x1.size (k0_off6_inb i)) numel1_S1x1 rfl
    have k0_hw2 : k0_chk2 v338 := (← Prog.lift (TpuEff.assume (k0_chk2 v338) (k0_chk2.dec v338))).down
    let v340 : Vec F S10x1x2048 .f32 ← Prog.lift (.load arg16 (Rect.unit (s := S10x32x2048) (k0_off7 v338) S10x1x2048.size (k0_off7_inb v338 k0_hw2)).toLoadRect (View.loadsAt_vmem h_S10x1x2048))
    let v342 : Vec F S1x1x10x2048 .f32 ← Prog.lift (.load arg13 (Rect.unit (s := S1x3x10x2048) ![0, 1, 0, 0] S1x1x10x2048.size inb_S1x3x10x2048_S1x1x10x2048_0_1_0_0).toLoadRect (View.loadsAt_vmem h_S1x1x10x2048))
    Prog.lift (.store arg13 (Rect.unit (s := S1x3x10x2048) ![0, 1, 0, 0] S1x1x10x2048.size inb_S1x3x10x2048_S1x1x10x2048_0_1_0_0) (k0_pay48 v340) Finset.univ (View.stores_vmem_bits_univ h_S1x1x10x2048 rfl) (.inl rfl))
    let v355 : Elt F .i32 ← smemLoad arg17 (Rect.unit (s := S8x3) (k0_off8 i) S1x1.size (k0_off8_inb i)) numel1_S1x1 rfl
    have k0_hw3 : k0_chk3 v355 := (← Prog.lift (TpuEff.assume (k0_chk3 v355) (k0_chk3.dec v355))).down
    let v357 : Vec F S10x1x2048 .f32 ← Prog.lift (.load arg16 (Rect.unit (s := S10x32x2048) (k0_off9 v355) S10x1x2048.size (k0_off9_inb v355 k0_hw3)).toLoadRect (View.loadsAt_vmem h_S10x1x2048))
    let v359 : Vec F S1x1x10x2048 .f32 ← Prog.lift (.load arg13 (Rect.unit (s := S1x3x10x2048) ![0, 2, 0, 0] S1x1x10x2048.size inb_S1x3x10x2048_S1x1x10x2048_0_2_0_0).toLoadRect (View.loadsAt_vmem h_S1x1x10x2048))
    Prog.lift (.store arg13 (Rect.unit (s := S1x3x10x2048) ![0, 2, 0, 0] S1x1x10x2048.size inb_S1x3x10x2048_S1x1x10x2048_0_2_0_0) (k0_pay49 v357) Finset.univ (View.stores_vmem_bits_univ h_S1x1x10x2048 rfl) (.inl rfl))
    pure (k0_pay50 v318 v319 v333 v338 v355))
  let v375 : Vec F S1x1x128 .f32 ← Prog.lift (.load arg15 (Rect.unit (s := S1x1x128) ![0, 0, 0] S1x1x128.size inb_S1x1x128_S1x1x128_0_0_0).toLoadRect (View.loadsAt_vmem h_S1x1x128))
  Prog.lift (.store arg15 (Rect.unit (s := S1x1x128) ![0, 0, 0] S1x1x128.size inb_S1x1x128_S1x1x128_0_0_0) (k0_pay1 v370) Finset.univ (View.stores_vmem_bits_univ h_S1x1x128 rfl) (.inl rfl))
  pure ⟨⟩

set_option maxRecDepth 65536 in
set_option maxHeartbeats 4000000 in
/-- The printed body is that program. -/
theorem kern_eq : cc0__step_kernel (F := F) = kern (F := F) := by
  rw [cc0__step_kernel_eq_skeleton]
  unfold cc0__step_kernel_skel kern
  rw [k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part9_skel
  rw [k0_part1_eq_skeleton]
  rfl

end Cert.KernelIdeal.Hand

end
-- ==== Proof.BodyA.lean ====
/- One grid point of the first half of the grid. -/
module

public import proofs.«01_k».proof.Proof.Cells
public import proofs.«01_k».proof.Proof.Skel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]
local notation "𝕄" => MT nD τ sig Unit (Elt F) ℕ (UR sig nD τ) ℕ

set_option maxHeartbeats 4000000 in
/-- One grid point of the first half: the body stores its blocks, keeps its three words in row `i` of the index scratch and
    uses them. -/
theorem bodyA (c : Dev nD) (i : grid0.Coords) (hi : k0_cond1 i = 1#1) (arg1 : Memref sig .tc .vmem S1x10x32x2048 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1 .f32) (harg11 : arg11.IsWhole) (arg12 : Memref sig .tc .vmem S1x10x32x4 .f32) (harg12 : arg12.IsWhole) (arg13 : Memref sig .tc .vmem S1x3x10x2048 .f32) (harg13 : arg13.IsWhole) (arg14 : Memref sig .tc .vmem S1x1x32 .f32) (harg14 : arg14.IsWhole) (arg15 : Memref sig .tc .vmem S1x1x128 .f32) (harg15 : arg15.IsWhole) (B : Blocks F)
    (hchk : ∀ k, (idxP B k).toNat < 32) (f17 : Vec F S8x3 .i32) (K : PUnit → sProp 𝕄) :
    iprop(owns (c : Thread nD τ) arg1 fullShare B.x1 ∗ owns (c : Thread nD τ) arg2 fullShare B.x2 ∗ owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.x9 ∗ owns (c : Thread nD τ) arg10 fullShare B.x10 ∗ owns (c : Thread nD τ) arg11 fullShare B.x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) sc0 fullShare d) ∗ owns (c : Thread nD τ) sc1 fullShare f17
      ∗ (iprop(owns (c : Thread nD τ) arg1 fullShare B.x1 ∗ owns (c : Thread nD τ) arg2 fullShare B.x2 ∗ owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.x9 ∗ owns (c : Thread nD τ) arg10 fullShare B.x10 ∗ owns (c : Thread nD τ) arg11 fullShare B.x11 ∗ owns (c : Thread nD τ) arg12 fullShare (topkP B (phase i)) ∗ owns (c : Thread nD τ) arg13 fullShare (featP (distP B (phase i)) (idxP B)) ∗ owns (c : Thread nD τ) arg14 fullShare (scoresP B) ∗ owns (c : Thread nD τ) arg15 fullShare (selP B (idxP B)) ∗ (∃ d, owns (c : Thread nD τ) sc0 fullShare d) ∗ owns (c : Thread nD τ) sc1 fullShare (putRow f17 (i 0).val (idxP B))) -∗ K ⟨⟩))
    ⊢ wp frame (wpE (defs₀ (F := F)) Variants.none c none) Set.univ
        (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 sc0 (Memref.isWhole_whole _) sc1 (Memref.isWhole_whole _)) K := by
  haveI := Fact.mk hi
  rw [kern_eq]
  sl_unfold [kern]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%g17, %hg17, H17⟩, Hk⟩
  subst hg17
  obtain ⟨x1, x2, x3, x4, x5, x6, x7, x8, x9, x10, x11⟩ := B
  obtain rfl : x1 = arg1.view.readAt (Elt F) (Rect.unit (s := S1x10x32x2048) ![0, 0, 0, 0] S1x10x32x2048.size inb_S1x10x32x2048_S1x10x32x2048_0_0_0_0).toLoadRect f1 := hf1.symm.trans (View.ld_unit_lit (S := S1x10x32x2048) (off := ![0, 0, 0, 0]) _ _ (by decide)).symm
  obtain rfl : x2 = arg2.view.readAt (Elt F) (Rect.unit (s := S2048x512) ![0, 0] S2048x512.size inb_S2048x512_S2048x512_0_0).toLoadRect f2 := hf2.symm.trans (View.ld_unit_lit (S := S2048x512) (off := ![0, 0]) _ _ (by decide)).symm
  obtain rfl : x3 = arg3.view.readAt (Elt F) (Rect.unit (s := S2048x512) ![0, 0] S2048x512.size inb_S2048x512_S2048x512_0_0).toLoadRect f3 := hf3.symm.trans (View.ld_unit_lit (S := S2048x512) (off := ![0, 0]) _ _ (by decide)).symm
  obtain rfl : x4 = arg4.view.readAt (Elt F) (Rect.unit (s := S2048x512) ![0, 0] S2048x512.size inb_S2048x512_S2048x512_0_0).toLoadRect f4 := hf4.symm.trans (View.ld_unit_lit (S := S2048x512) (off := ![0, 0]) _ _ (by decide)).symm
  obtain rfl : x5 = arg5.view.readAt (Elt F) (Rect.unit (s := S512x2048) ![0, 0] S512x2048.size inb_S512x2048_S512x2048_0_0).toLoadRect f5 := hf5.symm.trans (View.ld_unit_lit (S := S512x2048) (off := ![0, 0]) _ _ (by decide)).symm
  obtain rfl : x6 = arg6.view.readAt (Elt F) (Rect.unit (s := S2048x512) ![0, 0] S2048x512.size inb_S2048x512_S2048x512_0_0).toLoadRect f6 := hf6.symm.trans (View.ld_unit_lit (S := S2048x512) (off := ![0, 0]) _ _ (by decide)).symm
  obtain rfl : x7 = arg7.view.readAt (Elt F) (Rect.unit (s := S1x512) ![0, 0] S1x512.size inb_S1x512_S1x512_0_0).toLoadRect f7 := hf7.symm.trans (View.ld_unit_lit (S := S1x512) (off := ![0, 0]) _ _ (by decide)).symm
  obtain rfl : x8 = arg8.view.readAt (Elt F) (Rect.unit (s := S512x128) ![0, 0] S512x128.size inb_S512x128_S512x128_0_0).toLoadRect f8 := hf8.symm.trans (View.ld_unit_lit (S := S512x128) (off := ![0, 0]) _ _ (by decide)).symm
  obtain rfl : x9 = arg9.view.readAt (Elt F) (Rect.unit (s := S1x128) ![0, 0] S1x128.size inb_S1x128_S1x128_0_0).toLoadRect f9 := hf9.symm.trans (View.ld_unit_lit (S := S1x128) (off := ![0, 0]) _ _ (by decide)).symm
  obtain rfl : x10 = arg10.view.readAt (Elt F) (Rect.unit (s := S1x128) ![0, 0] S1x128.size inb_S1x128_S1x128_0_0).toLoadRect f10 := hf10.symm.trans (View.ld_unit_lit (S := S1x128) (off := ![0, 0]) _ _ (by decide)).symm
  obtain rfl : x11 = arg11.view.readAt (Elt F) (Rect.unit (s := S1x1) ![0, 0] S1x1.size inb_S1x1_S1x1_0_0).toLoadRect f11 := hf11.symm.trans (View.ld_unit_lit (S := S1x1) (off := ![0, 0]) _ _ (by decide)).symm
  sl_exec
  have e0 : bodyA.sl.r_3 c i hi arg1 arg2 arg3 arg4 arg5 arg6 arg7 arg8 arg9 arg10 arg11 f1 f2 f3 f4 f5 f6 f7 f8 f9 f10 f11 = idxP (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩ 0 := back0 (F := F) i hi (idx0 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) (idx1 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) (idx2 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) _
  have c0 := chk1_of (lt_of_eq' e0 (hchk 0))
  sl_exec (disch := sl_exact c0)
  have e1 : bodyA.sl.r_4 c i hi arg1 arg2 arg3 arg4 arg5 arg6 arg7 arg8 arg9 arg10 arg11 f1 f2 f3 f4 f5 f6 f7 f8 f9 f10 f11 = idxP (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩ 1 := back1 (F := F) i hi (idx0 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) (idx1 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) (idx2 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) _
  have c1 := chk2_of (lt_of_eq' e1 (hchk 1))
  sl_exec (disch := sl_exact c1)
  have e2 : bodyA.sl.r_5 c i hi arg1 arg2 arg3 arg4 arg5 arg6 arg7 arg8 arg9 arg10 arg11 f1 f2 f3 f4 f5 f6 f7 f8 f9 f10 f11 = idxP (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩ 2 := back2 (F := F) i hi (idx0 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) (idx1 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) (idx2 (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) _
  have c2 := chk3_of (lt_of_eq' e2 (hchk 2))
  sl_exec (disch := sl_exact c2)
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; isplitr; swap; · iexact H12
    ipureintro; exact whole_back (S := S1x10x32x4) _ _ (off := ![0, 0, 0, 0]) _ _ (by decide)
  isplitl [H13]
  · iexists _; isplitr; swap; · iexact H13
    ipureintro
    exact feat_back _ _ _ _ _ _ _ (row_back _ _ _ e0 c0 _) (row_back _ _ _ e1 c1 _) (row_back _ _ _ e2 c2 _)
  isplitl [H14]
  · iexists _; isplitr; swap; · iexact H14
    ipureintro; exact whole_back (S := S1x1x32) _ _ (off := ![0, 0, 0]) _ _ (by decide)
  isplitl [H15]
  · iexists _; isplitr; swap; · iexact H15
    ipureintro; exact (whole_back (S := S1x1x128) _ _ (off := ![0, 0, 0]) _ _ (by decide)).trans (sel_eq _ (idxP (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) e0 e1 e2)
  isplitl [H16]
  · iexists _, _; isplitr; swap; · iexact H16
    ipureintro; rfl
  iexists _; isplitr; swap; · iexact H17
  ipureintro; exact put_back i (idxP (F := F) ⟨arg1.view.readAt (Elt F) (Rect.unit (s := S1x10x32x2048) ![0, 0, 0, 0] S1x10x32x2048.size inb_S1x10x32x2048_S1x10x32x2048_0_0_0_0).toLoadRect f1,
      arg2.view.readAt (Elt F) (Rect.unit (s := S2048x512) ![0, 0] S2048x512.size inb_S2048x512_S2048x512_0_0).toLoadRect f2,
      arg3.view.readAt (Elt F) (Rect.unit (s := S2048x512) ![0, 0] S2048x512.size inb_S2048x512_S2048x512_0_0).toLoadRect f3,
      arg4.view.readAt (Elt F) (Rect.unit (s := S2048x512) ![0, 0] S2048x512.size inb_S2048x512_S2048x512_0_0).toLoadRect f4,
      arg5.view.readAt (Elt F) (Rect.unit (s := S512x2048) ![0, 0] S512x2048.size inb_S512x2048_S512x2048_0_0).toLoadRect f5,
      arg6.view.readAt (Elt F) (Rect.unit (s := S2048x512) ![0, 0] S2048x512.size inb_S2048x512_S2048x512_0_0).toLoadRect f6,
      arg7.view.readAt (Elt F) (Rect.unit (s := S1x512) ![0, 0] S1x512.size inb_S1x512_S1x512_0_0).toLoadRect f7,
      arg8.view.readAt (Elt F) (Rect.unit (s := S512x128) ![0, 0] S512x128.size inb_S512x128_S512x128_0_0).toLoadRect f8,
      arg9.view.readAt (Elt F) (Rect.unit (s := S1x128) ![0, 0] S1x128.size inb_S1x128_S1x128_0_0).toLoadRect f9,
      arg10.view.readAt (Elt F) (Rect.unit (s := S1x128) ![0, 0] S1x128.size inb_S1x128_S1x128_0_0).toLoadRect f10,
      arg11.view.readAt (Elt F) (Rect.unit (s := S1x1) ![0, 0] S1x1.size inb_S1x1_S1x1_0_0).toLoadRect f11⟩) g17

end Cert.KernelIdeal.Hand

end
-- ==== Proof.BodyB.lean ====
/- One grid point of the second half of the grid. -/
module

public import proofs.«01_k».proof.Proof.Cells
public import proofs.«01_k».proof.Proof.Skel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]
local notation "𝕄" => MT nD τ sig Unit (Elt F) ℕ (UR sig nD τ) ℕ

set_option maxHeartbeats 4000000 in
/-- One grid point of the second half: the body stores its blocks, using the three words row `i - 8` of the index scratch
    holds. -/
theorem bodyB (c : Dev nD) (i : grid0.Coords) (hi : ¬ k0_cond1 i = 1#1) (arg1 : Memref sig .tc .vmem S1x10x32x2048 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S512x2048 .f32) (harg5 : arg5.IsWhole) (arg6 : Memref sig .tc .vmem S2048x512 .f32) (harg6 : arg6.IsWhole) (arg7 : Memref sig .tc .vmem S1x512 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x1 .f32) (harg11 : arg11.IsWhole) (arg12 : Memref sig .tc .vmem S1x10x32x4 .f32) (harg12 : arg12.IsWhole) (arg13 : Memref sig .tc .vmem S1x3x10x2048 .f32) (harg13 : arg13.IsWhole) (arg14 : Memref sig .tc .vmem S1x1x32 .f32) (harg14 : arg14.IsWhole) (arg15 : Memref sig .tc .vmem S1x1x128 .f32) (harg15 : arg15.IsWhole) (B : Blocks F)
    (w : Fin 3 → BitVec 32) (hchk : ∀ k, (w k).toNat < 32) (f17 : Vec F S8x3 .i32)
    (hw : ∀ y : S8x3.Idx, (y 0).val = (i 0).val - 8 → f17 y = w (y 1)) (K : PUnit → sProp 𝕄) :
    iprop(owns (c : Thread nD τ) arg1 fullShare B.x1 ∗ owns (c : Thread nD τ) arg2 fullShare B.x2 ∗ owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.x9 ∗ owns (c : Thread nD τ) arg10 fullShare B.x10 ∗ owns (c : Thread nD τ) arg11 fullShare B.x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) sc0 fullShare d) ∗ owns (c : Thread nD τ) sc1 fullShare f17
      ∗ (iprop(owns (c : Thread nD τ) arg1 fullShare B.x1 ∗ owns (c : Thread nD τ) arg2 fullShare B.x2 ∗ owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.x9 ∗ owns (c : Thread nD τ) arg10 fullShare B.x10 ∗ owns (c : Thread nD τ) arg11 fullShare B.x11 ∗ owns (c : Thread nD τ) arg12 fullShare (topkP B (phase i)) ∗ owns (c : Thread nD τ) arg13 fullShare (featP (distP B (phase i)) w) ∗ owns (c : Thread nD τ) arg14 fullShare (scoresP B) ∗ owns (c : Thread nD τ) arg15 fullShare (selP B w) ∗ (∃ d, owns (c : Thread nD τ) sc0 fullShare d) ∗ owns (c : Thread nD τ) sc1 fullShare f17) -∗ K ⟨⟩))
    ⊢ wp frame (wpE (defs₀ (F := F)) Variants.none c none) Set.univ
        (cc0__step_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 sc0 (Memref.isWhole_whole _) sc1 (Memref.isWhole_whole _)) K := by
  haveI := Fact.mk hi
  rw [kern_eq]
  sl_unfold [kern]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%g17, %hg17, H17⟩, Hk⟩
  subst hg17
  obtain ⟨x1, x2, x3, x4, x5, x6, x7, x8, x9, x10, x11⟩ := B
  obtain rfl : x1 = arg1.view.readAt (Elt F) (Rect.unit (s := S1x10x32x2048) ![0, 0, 0, 0] S1x10x32x2048.size inb_S1x10x32x2048_S1x10x32x2048_0_0_0_0).toLoadRect f1 := hf1.symm.trans (View.ld_unit_lit (S := S1x10x32x2048) (off := ![0, 0, 0, 0]) _ _ (by decide)).symm
  obtain rfl : x2 = arg2.view.readAt (Elt F) (Rect.unit (s := S2048x512) ![0, 0] S2048x512.size inb_S2048x512_S2048x512_0_0).toLoadRect f2 := hf2.symm.trans (View.ld_unit_lit (S := S2048x512) (off := ![0, 0]) _ _ (by decide)).symm
  obtain rfl : x3 = arg3.view.readAt (Elt F) (Rect.unit (s := S2048x512) ![0, 0] S2048x512.size inb_S2048x512_S2048x512_0_0).toLoadRect f3 := hf3.symm.trans (View.ld_unit_lit (S := S2048x512) (off := ![0, 0]) _ _ (by decide)).symm
  obtain rfl : x4 = arg4.view.readAt (Elt F) (Rect.unit (s := S2048x512) ![0, 0] S2048x512.size inb_S2048x512_S2048x512_0_0).toLoadRect f4 := hf4.symm.trans (View.ld_unit_lit (S := S2048x512) (off := ![0, 0]) _ _ (by decide)).symm
  obtain rfl : x5 = arg5.view.readAt (Elt F) (Rect.unit (s := S512x2048) ![0, 0] S512x2048.size inb_S512x2048_S512x2048_0_0).toLoadRect f5 := hf5.symm.trans (View.ld_unit_lit (S := S512x2048) (off := ![0, 0]) _ _ (by decide)).symm
  obtain rfl : x6 = arg6.view.readAt (Elt F) (Rect.unit (s := S2048x512) ![0, 0] S2048x512.size inb_S2048x512_S2048x512_0_0).toLoadRect f6 := hf6.symm.trans (View.ld_unit_lit (S := S2048x512) (off := ![0, 0]) _ _ (by decide)).symm
  obtain rfl : x7 = arg7.view.readAt (Elt F) (Rect.unit (s := S1x512) ![0, 0] S1x512.size inb_S1x512_S1x512_0_0).toLoadRect f7 := hf7.symm.trans (View.ld_unit_lit (S := S1x512) (off := ![0, 0]) _ _ (by decide)).symm
  obtain rfl : x8 = arg8.view.readAt (Elt F) (Rect.unit (s := S512x128) ![0, 0] S512x128.size inb_S512x128_S512x128_0_0).toLoadRect f8 := hf8.symm.trans (View.ld_unit_lit (S := S512x128) (off := ![0, 0]) _ _ (by decide)).symm
  obtain rfl : x9 = arg9.view.readAt (Elt F) (Rect.unit (s := S1x128) ![0, 0] S1x128.size inb_S1x128_S1x128_0_0).toLoadRect f9 := hf9.symm.trans (View.ld_unit_lit (S := S1x128) (off := ![0, 0]) _ _ (by decide)).symm
  obtain rfl : x10 = arg10.view.readAt (Elt F) (Rect.unit (s := S1x128) ![0, 0] S1x128.size inb_S1x128_S1x128_0_0).toLoadRect f10 := hf10.symm.trans (View.ld_unit_lit (S := S1x128) (off := ![0, 0]) _ _ (by decide)).symm
  obtain rfl : x11 = arg11.view.readAt (Elt F) (Rect.unit (s := S1x1) ![0, 0] S1x1.size inb_S1x1_S1x1_0_0).toLoadRect f11 := hf11.symm.trans (View.ld_unit_lit (S := S1x1) (off := ![0, 0]) _ _ (by decide)).symm
  sl_exec
  have e0 : bodyB.sl.r c i g17 = w 0 := word_at (F := F) g17 w ((i 0).val - 8) 0 (off4_lo i hi) hw _
  have c0 := chk1_of (lt_of_eq' e0 (hchk 0))
  sl_exec (disch := sl_exact c0)
  have e1 : bodyB.sl.r_1 c i g17 = w 1 := word_at (F := F) g17 w ((i 0).val - 8) 1 (off6_lo i hi) hw _
  have c1 := chk2_of (lt_of_eq' e1 (hchk 1))
  sl_exec (disch := sl_exact c1)
  have e2 : bodyB.sl.r_2 c i g17 = w 2 := word_at (F := F) g17 w ((i 0).val - 8) 2 (off8_lo i hi) hw _
  have c2 := chk3_of (lt_of_eq' e2 (hchk 2))
  sl_exec (disch := sl_exact c2)
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists f7; isplitr; · ipureintro; exact hf7
    iexact H7
  isplitl [H8]
  · iexists f8; isplitr; · ipureintro; exact hf8
    iexact H8
  isplitl [H9]
  · iexists f9; isplitr; · ipureintro; exact hf9
    iexact H9
  isplitl [H10]
  · iexists f10; isplitr; · ipureintro; exact hf10
    iexact H10
  isplitl [H11]
  · iexists f11; isplitr; · ipureintro; exact hf11
    iexact H11
  isplitl [H12]
  · iexists _; isplitr; swap; · iexact H12
    ipureintro; exact whole_back (S := S1x10x32x4) _ _ (off := ![0, 0, 0, 0]) _ _ (by decide)
  isplitl [H13]
  · iexists _; isplitr; swap; · iexact H13
    ipureintro
    exact feat_back _ _ _ _ _ _ _ (row_back _ _ _ e0 c0 _) (row_back _ _ _ e1 c1 _) (row_back _ _ _ e2 c2 _)
  isplitl [H14]
  · iexists _; isplitr; swap; · iexact H14
    ipureintro; exact whole_back (S := S1x1x32) _ _ (off := ![0, 0, 0]) _ _ (by decide)
  isplitl [H15]
  · iexists _; isplitr; swap; · iexact H15
    ipureintro; exact (whole_back (S := S1x1x128) _ _ (off := ![0, 0, 0]) _ _ (by decide)).trans (sel_eq _ (w) e0 e1 e2)
  isplitl [H16]
  · iexists _, _; isplitr; swap; · iexact H16
    ipureintro; rfl
  iexists _; isplitr; swap; · iexact H17
  ipureintro; rfl

end Cert.KernelIdeal.Hand

end
-- ==== Proof.Run.lean ====
/- The launch of the kernel: the pipeline's proof data, the body's obligation at every point, the run. -/
module

public import proofs.«01_k».proof.Proof.BodyA
public import proofs.«01_k».proof.Proof.BodyB
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The eleven blocks grid point `t` reads. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The point whose choice of frames point `t` uses: itself in the first half, the point eight before in the second. -/
def back (t : Fin cfg0.N) : Fin cfg0.N := if t.val < 8 then t else ⟨t.val - 8, lt_of_le_of_lt (Nat.sub_le _ _) t.isLt⟩

/-- The three words point `t` uses. -/
def words (c : Dev nD) (t : Fin cfg0.N) : Fin 3 → BitVec 32 := idxP (blocksAt m c (back t))

/-- What the index scratch holds before point `t`: row `r` has point `r`'s words, for the points run so far. -/
def Kept (c : Dev nD) (t : ℕ) (f : Vec F S8x3 .i32) : Prop :=
  ∀ r : Fin cfg0.N, r.val < 8 → r.val < t → ∀ y : S8x3.Idx, (y 0).val = r.val → f y = idxP (blocksAt m c r) (y 1)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => topkP (blocksAt m c t) (phase (grid0.coords t))
    | ⟨12, _⟩ => featP (distP (blocksAt m c t) (phase (grid0.coords t))) (words m c t)
    | ⟨13, _⟩ => scoresP (blocksAt m c t)
    | ⟨14, _⟩ => selP (blocksAt m c t) (words m c t)
  Φ t := iprop((∃ d, owns (c : Thread nD τ) sc0 fullShare d) ∗ (∃ f, ⌜Kept m c t.val f⌝ ∗ owns (c : Thread nD τ) sc1 fullShare f)
    ∗ ∃ r, prngReg c r)
  q _ := fullShare
  owed _ := 0

/-- The proof data's arrays are the contents the region finds. -/
theorem A_eq (c : Dev nD) (w : Fin cfg0.W) : (dats m 0 c).A w = V m c (Pipeline.arrRef spec0 w) := by
  dsimp only [dats]
/-- The invariant, spelled out. -/
theorem Φ_eq (c : Dev nD) (t : Fin (cfg0.N + 1)) : (dats m 0 c).Φ t = iprop((∃ d, owns (c : Thread nD τ) sc0 fullShare d)
    ∗ (∃ f, ⌜Kept m c t.val f⌝ ∗ owns (c : Thread nD τ) sc1 fullShare f) ∗ ∃ r, prngReg c r) := by
  dsimp only [dats]
/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = topkP (blocksAt m c t) (phase (grid0.coords t)) := by dsimp only [dats]
/-- What the body leaves in window 12. -/
theorem after0_12 (c : Dev nD) (t : Fin cfg0.N) : (dats m 0 c).after 12 t = featP (distP (blocksAt m c t) (phase (grid0.coords t))) (words m c t) := by dsimp only [dats]
/-- What the body leaves in window 13. -/
theorem after0_13 (c : Dev nD) (t : Fin cfg0.N) : (dats m 0 c).after 13 t = scoresP (blocksAt m c t) := by dsimp only [dats]
/-- What the body leaves in window 14. -/
theorem after0_14 (c : Dev nD) (t : Fin cfg0.N) : (dats m 0 c).after 14 t = selP (blocksAt m c t) (words m c t) := by dsimp only [dats]
/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d
/-- What the body finds in window 6. -/
theorem before0_6 (c : Dev nD) (t : Fin cfg0.N) (d) : (dats m 0 c).before 6 t d = iblk m c 6 t :=
  before0_6_of m (dats m 0 c) (A_eq m c 6) (after0_6 m c) t d
/-- What the body finds in window 7. -/
theorem before0_7 (c : Dev nD) (t : Fin cfg0.N) (d) : (dats m 0 c).before 7 t d = iblk m c 7 t :=
  before0_7_of m (dats m 0 c) (A_eq m c 7) (after0_7 m c) t d
/-- What the body finds in window 8. -/
theorem before0_8 (c : Dev nD) (t : Fin cfg0.N) (d) : (dats m 0 c).before 8 t d = iblk m c 8 t :=
  before0_8_of m (dats m 0 c) (A_eq m c 8) (after0_8 m c) t d
/-- What the body finds in window 9. -/
theorem before0_9 (c : Dev nD) (t : Fin cfg0.N) (d) : (dats m 0 c).before 9 t d = iblk m c 9 t :=
  before0_9_of m (dats m 0 c) (A_eq m c 9) (after0_9 m c) t d
/-- What the body finds in window 10. -/
theorem before0_10 (c : Dev nD) (t : Fin cfg0.N) (d) : (dats m 0 c).before 10 t d = iblk m c 10 t :=
  before0_10_of m (dats m 0 c) (A_eq m c 10) (after0_10 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)))
/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t))

/-- The first half of the grid is where the kernel's test holds. -/
theorem cond_iff : ∀ t : Fin grid0.N, k0_cond1 (grid0.coords t) = 1#1 ↔ t.val < 8 := by decide
/-- A point's coordinate is its number. -/
theorem coord_eq : ∀ t : Fin grid0.N, (grid0.coords t 0).val = t.val := by decide

/-- After a point of the first half its own row is in place too. -/
theorem kept_put (c : Dev nD) (t : Fin cfg0.N) (f : Vec F S8x3 .i32) (h : Kept m c t.val f) :
    Kept m c (t.val + 1) (putRow f (grid0.coords t 0).val (idxP (blocksAt m c t))) := by
  intro r h8 hr y hy
  unfold putRow
  by_cases e : r.val = t.val
  · obtain rfl : r = t := Fin.ext e
    rw [if_pos (by rw [coord_eq]; exact hy)]
  · rw [if_neg (by rw [coord_eq, hy]; exact e)]
    exact h r h8 (by omega) y hy
/-- A point of the second half keeps what was there. -/
theorem kept_succ (c : Dev nD) (t : Fin cfg0.N) (f : Vec F S8x3 .i32) (ht : ¬ t.val < 8) (h : Kept m c t.val f) :
    Kept m c (t.val + 1) f := by
  intro r h8 hr y hy
  exact h r h8 (by omega) y hy
/-- The words a point of the second half finds in its row. -/
theorem kept_row (c : Dev nD) (t : Fin cfg0.N) (f : Vec F S8x3 .i32) (ht : ¬ t.val < 8) (h : Kept m c t.val f)
    (y : S8x3.Idx) (hy : (y 0).val = (grid0.coords t 0).val - 8) : f y = words m c t (y 1) := by
  have hN : t.val < 16 := lt_of_lt_of_eq t.isLt N_0
  rw [coord_eq] at hy
  unfold words back
  rw [if_neg ht]
  exact h _ (show t.val - 8 < 8 by omega) (show t.val - 8 < t.val by omega) y hy

variable (hidx : ∀ (B : Blocks F) k, (idxP B k).toNat < 32)
include hidx

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, Φ_eq, Φ_eq]
  iintro ⟨⟨HS0, ⟨%f17, %hf, HS1⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  by_cases ht : t.val < 8
  · have hw : words m c t = idxP (blocksAt m c t) := by unfold words back; rw [if_pos ht]
    rw [hw]
    iapply (bodyA c (grid0.coords t) ((cond_iff t).mpr ht) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (blocksAt m c t) (hidx _) f17 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 HR]
    · isplitl [HS0]; · iexact HS0
      isplitl [HS1]
      · iexists _
        isplitr
        · ipureintro; exact kept_put m c t f17 hf
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iapply (bodyB c (grid0.coords t) (fun h => ht ((cond_iff t).mp h)) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (blocksAt m c t) (words m c t) (hidx _) f17 (kept_row m c t f17 ht hf) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 HR]
    · isplitl [HS0]; · iexact HS0
      isplitl [HS1]
      · iexists _
        isplitr
        · ipureintro; exact kept_succ m c t f17 ht hf
        iexact HS1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

omit hidx in
/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m hidx c t) rfl .rfl fun _ => .rfl

omit hidx in
/-- The invariant holds at the start, -/
theorem hin (c : Dev nD) : (Pipeline.ΦA spec0 c : sProp 𝕄) ⊢ (dats m 0 c).Φ 0 := by
  unfold Pipeline.ΦA
  rw [Φ_eq, scopedRest0_eq]
  simp only [sc0, sc1, owns_whole]
  iintro ⟨⟨H0, ⟨%f, H1⟩⟩, HR⟩
  isplitl [H0]; · iexact H0
  isplitl [H1]
  · iexists f
    isplitr
    · ipureintro; intro r _ h; exact absurd h (Nat.not_lt_zero _)
    iexact H1
  iexact HR
omit hidx in
/-- and gives the scratch back at the end. -/
theorem hout (c : Dev nD) : (dats m 0 c).Φ (Fin.last cfg0.N) ⊢ (Pipeline.ΦA spec0 c : sProp 𝕄) := by
  unfold Pipeline.ΦA
  rw [Φ_eq, scopedRest0_eq]
  simp only [sc0, sc1, owns_whole]
  iintro ⟨H0, ⟨%f, %hf, H1⟩, HR⟩
  isplitl [H0 H1]
  · isplitl [H0]; · iexact H0
    iexists f
    iexact H1
  iexact HR

set_option backward.isDefEq.respectTransparency.types false in
/-- The run: every array and every other buffer at what the proof data say, and every counter zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m hidx c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ hidx)))
    ((θ_run defs _ _).mono (fun _ h => h.2) (run_main m ρ hidx))

end Cert.KernelIdeal.Hand

end
-- ==== Proof.Order.lean ====
/- Choosing the largest entries of a row one after the other, and a stable descending sort of the row: the same
   entries in the same order. Facts about the extended reals and finite positions alone. -/
module

public import Idealize.ShloMosaic.Lib.SortFacts
public import Idealize.ShloMosaic.Lib.WordArith
public import Idealize.ShloMosaic.Lib.Pointwise
public import Mathlib.Data.EReal.Basic

@[expose] public section

noncomputable section

namespace Cert.Order

open Idealize.ShloMosaic

variable {n : ℕ}

/-- `p` lists the positions of the row `f` from the largest entry down, equal entries by rising position. -/
structure Ranked (f : Fin n → EReal) (p : Fin n → Fin n) : Prop where
  inj : Function.Injective p
  surj : Function.Surjective p
  anti : ∀ i j, i < j → f (p j) ≤ f (p i)
  tie : ∀ i j, i < j → f (p j) = f (p i) → p i < p j

/-- The order by value, largest first. -/
def byVal (f : Fin n → EReal) (k k' : Fin n) : Bool := decide (f k' < f k)

/-- The order by value, largest first, and by position among equals. -/
def byLex (f : Fin n → EReal) (k k' : Fin n) : Bool := decide (f k' < f k ∨ (f k = f k' ∧ k < k'))

/-- When one position does not come before another in the order by value and position. -/
theorem byLex_false (f : Fin n → EReal) (a b : Fin n) : byLex f a b = false ↔ f a < f b ∨ (f a = f b ∧ b ≤ a) := by
  simp only [byLex, decide_eq_false_iff_not, not_or, not_lt, not_and]
  constructor
  · rintro ⟨h1, h2⟩
    rcases h1.eq_or_lt with e | e
    · exact Or.inr ⟨e, h2 e⟩
    · exact Or.inl e
  · rintro (h | ⟨h, h'⟩)
    · exact ⟨h.le, fun e => absurd e h.ne⟩
    · exact ⟨h.le, fun _ => h'⟩

/-- On a list of rising positions a stable sort by value is the sort by value and position. -/
theorem stableSort_lex (f : Fin n → EReal) (l : List (Fin n)) (hl : l.Pairwise (· < ·)) :
    stableSort (byVal f) l = stableSort (byLex f) l := by
  induction l with
  | nil => rfl
  | cons a l ih =>
    rw [List.pairwise_cons] at hl
    simp only [stableSort]
    rw [ih hl.2]
    refine insertBefore_congr _ _ a _ fun b hb => ?_
    have hb' : b ∈ l := (perm_stableSort (byLex f) l).subset hb
    have hab := hl.1 b hb'
    simp only [byVal, byLex, not_lt.mpr hab.le, and_false, or_false]

/-- The positions in the order of a stable descending sort are ranked. -/
theorem ranked_sorted (f : Fin n → EReal) : Ranked f (sortedFrom (byVal f)) := by
  have hp : sortPositions n (byVal f) = sortPositions n (byLex f) := by
    unfold sortPositions
    exact stableSort_lex f _ (List.pairwise_lt_finRange n)
  have hs : sortedFrom (byVal f) = sortedFrom (byLex f) := by
    funext k
    unfold sortedFrom
    simp only [List.get_eq_getElem, hp]
    rfl
  rw [hs]
  have key : ∀ i j : Fin n, i < j → byLex f (sortedFrom (byLex f) j) (sortedFrom (byLex f) i) = false := fun i j hij =>
    sortedFrom_noInversion (byLex f) (byLex f)
      (by
        intro a b h
        simp only [byLex, decide_eq_true_eq, decide_eq_false_iff_not] at h ⊢
        rintro (h' | ⟨h', h''⟩)
        · rcases h with h | ⟨h, _⟩
          · exact absurd h' (not_lt.mpr h.le)
          · exact absurd h' (by rw [h]; exact lt_irrefl _)
        · rcases h with h | ⟨_, h⟩
          · exact absurd h (by rw [h']; exact lt_irrefl _)
          · exact absurd h (not_lt.mpr h''.le))
      (fun _ _ h => h)
      (by
        intro a b c h1 h2
        rw [byLex_false] at h1 h2 ⊢
        rcases h1 with h1 | ⟨h1, h1'⟩ <;> rcases h2 with h2 | ⟨h2, h2'⟩
        · exact Or.inl (h1.trans h2)
        · exact Or.inl (h2 ▸ h1)
        · exact Or.inl (h1 ▸ h2)
        · exact Or.inr ⟨h1.trans h2, h2'.trans h1'⟩) i j hij
  refine ⟨sortedFrom_injective _, sortedFrom_surjective _, fun i j hij => ?_, fun i j hij he => ?_⟩
  · have h := key i j hij
    simp only [byLex, decide_eq_false_iff_not, not_or] at h
    exact not_lt.mp h.1
  · have h := key i j hij
    simp only [byLex, decide_eq_false_iff_not, not_or, not_and, not_lt] at h
    refine lt_of_le_of_ne (h.2 he) fun hne => ?_
    exact absurd (sortedFrom_injective _ hne) hij.ne

/-- The row after its first `k` ranked entries were struck out. -/
def mask (f : Fin n → EReal) (p : Fin n → Fin n) (k : ℕ) (l : Fin n) : EReal :=
  open Classical in if ∃ j : Fin n, j.val < k ∧ p j = l then ⊥ else f l

/-- With nothing struck out the row is as it was. -/
theorem mask_zero (f : Fin n → EReal) (p : Fin n → Fin n) : mask f p 0 = f := by
  funext l; simp [mask]

section ranked
variable {f : Fin n → EReal} {p : Fin n → Fin n} (h : Ranked f p)
include h

/-- A ranked entry is struck out exactly if its rank is below the number of rounds. -/
theorem mask_at (k : ℕ) (j : Fin n) : mask f p k (p j) = if j.val < k then ⊥ else f (p j) := by
  unfold mask
  by_cases hj : j.val < k
  · rw [if_pos ⟨j, hj, rfl⟩, if_pos hj]
  · rw [if_neg, if_neg hj]
    rintro ⟨j', hj', he⟩
    rw [h.inj he] at hj'
    exact hj hj'

/-- The largest entry left is the next ranked one. -/
theorem max_mask (k : Fin n) : Finset.univ.fold max ⊥ (mask f p k.val) = f (p k) := by
  apply le_antisymm
  · rw [Finset.fold_max_le]
    refine ⟨bot_le, fun l _ => ?_⟩
    obtain ⟨j, rfl⟩ := h.surj l
    rw [mask_at h]
    split
    · exact bot_le
    · rename_i hj
      rcases (not_lt.mp hj).eq_or_lt with e | e
      · rw [Fin.ext e]
      · exact h.anti k j e
  · rw [Finset.le_fold_max]
    refine Or.inr ⟨p k, Finset.mem_univ _, ?_⟩
    rw [mask_at h, if_neg (lt_irrefl _)]

/-- The first position that holds the largest entry left is the next ranked one, as long as entries are left. -/
theorem first_mask (k : Fin n) (hb : f (p k) ≠ ⊥) (l : Fin n) (hl : l < p k) : mask f p k.val l ≠ f (p k) := by
  intro he
  obtain ⟨j, rfl⟩ := h.surj l
  rw [mask_at h] at he
  split at he
  · exact hb he.symm
  · rename_i hj
    rcases (not_lt.mp hj).eq_or_lt with e | e
    · rw [← Fin.ext e] at hl; exact lt_irrefl _ hl
    · exact absurd (h.tie k j e he) (not_lt.mpr hl.le)

/-- With nothing left every entry is struck out. -/
theorem mask_bot (k : Fin n) (hb : f (p k) = ⊥) (l : Fin n) : mask f p k.val l = ⊥ := by
  have := max_mask h k
  rw [hb] at this
  refine le_bot_iff.mp (this ▸ ?_)
  rw [Finset.le_fold_max]
  exact Or.inr ⟨l, Finset.mem_univ _, le_rfl⟩

/-- Striking out lowers entries only. -/
theorem mask_le (k : ℕ) (l : Fin n) : mask f p (k + 1) l ≤ mask f p k l := by
  obtain ⟨j, rfl⟩ := h.surj l
  rw [mask_at h, mask_at h]
  by_cases h1 : j.val < k
  · rw [if_pos h1, if_pos (by omega)]
  · rw [if_neg h1]; split
    · exact bot_le
    · exact le_rfl

/-- One more round strikes out the next ranked position. -/
theorem mask_succ (k : Fin n) (l : Fin n) : mask f p (k.val + 1) l = if l = p k then ⊥ else mask f p k.val l := by
  obtain ⟨j, rfl⟩ := h.surj l
  rw [mask_at h, mask_at h]
  by_cases hj : j = k
  · subst hj; simp
  · rw [if_neg (fun e => hj (h.inj e))]
    have : j.val ≠ k.val := fun e => hj (Fin.ext e)
    by_cases h1 : j.val < k.val
    · rw [if_pos h1, if_pos (by omega)]
    · rw [if_neg h1, if_neg (by omega)]

end ranked

/-- The smallest of finitely many small words, as a number. -/
theorem toNat_fold_minsi {ι : Type} (s : Finset ι) (c : BitVec 32) (f : ι → BitVec 32) (hc : c.toNat < 2 ^ 31)
    (hf : ∀ i, (f i).toNat < 2 ^ 31) : (s.fold IntOp.minsi c f).toNat = s.fold min c.toNat fun i => (f i).toNat := by
  classical
  have key : (s.fold IntOp.minsi c f).toNat < 2 ^ 31 ∧ (s.fold IntOp.minsi c f).toNat = s.fold min c.toNat fun i => (f i).toNat := by
    induction s using Finset.induction_on with
    | empty => exact ⟨hc, rfl⟩
    | insert a s ha ih =>
      rw [Finset.fold_insert ha, Finset.fold_insert ha, WordArith.toNat_minsi_of_lt _ _ (hf a) ih.1, ih.2]
      exact ⟨lt_of_le_of_lt (min_le_left _ _) (hf a), rfl⟩
  exact key.2

/-- The word of the first position where the row `g` has the value `M`, or of `N` where there is none. -/
def firstWord (N : BitVec 32) (g : Fin n → EReal) (M : EReal) : BitVec 32 :=
  open Classical in Finset.univ.fold IntOp.minsi 2147483647#32 fun l : Fin n => if g l = M then BitVec.ofNat 32 l.val else N

/-- The word of the first position with a value is the position that has it with none before it. -/
theorem firstWord_eq (N : BitVec 32) (hN : N.toNat < 2 ^ 31) (hn : n ≤ N.toNat) (g : Fin n → EReal) (M : EReal) (r : Fin n)
    (hr : g r = M) (hlt : ∀ l, l < r → g l ≠ M) : firstWord N g M = BitVec.ofNat 32 r.val := by
  classical
  have hsm : ∀ l : Fin n, (BitVec.ofNat 32 l.val).toNat = l.val := fun l => by
    rw [BitVec.toNat_ofNat]; exact Nat.mod_eq_of_lt (by have := l.isLt; omega)
  apply BitVec.eq_of_toNat_eq
  unfold firstWord
  rw [toNat_fold_minsi _ _ _ (by decide) (by
    intro l; split
    · rw [hsm]; have := l.isLt; omega
    · exact hN), hsm]
  apply le_antisymm
  · rw [Finset.fold_min_le]
    refine Or.inr ⟨r, Finset.mem_univ _, ?_⟩
    rw [if_pos hr, hsm]
  · rw [Finset.le_fold_min]
    refine ⟨by have := r.isLt; simp; omega, fun l _ => ?_⟩
    split
    · rename_i hl
      rw [hsm]
      exact not_lt.mp fun hlr => hlt l hlr hl
    · have := r.isLt; omega

/-- Where the row's largest entry is looked up, the word is a position. -/
theorem firstWord_max_lt (N : BitVec 32) (hN : N.toNat < 2 ^ 31) (hn : n ≤ N.toNat) (hpos : 0 < n) (g : Fin n → EReal) :
    (firstWord N g (Finset.univ.fold max ⊥ g)).toNat < n := by
  classical
  have hex : ∃ l : Fin n, g l = Finset.univ.fold max ⊥ g := by
    haveI : Nonempty (Fin n) := ⟨⟨0, hpos⟩⟩
    obtain ⟨l, hl⟩ := Finite.exists_max g
    refine ⟨l, le_antisymm ?_ ?_⟩
    · rw [Finset.le_fold_max]; exact Or.inr ⟨l, Finset.mem_univ _, le_rfl⟩
    · rw [Finset.fold_max_le]; exact ⟨bot_le, fun x _ => hl x⟩
  have hsm : ∀ l : Fin n, (BitVec.ofNat 32 l.val).toNat = l.val := fun l => by
    rw [BitVec.toNat_ofNat]; exact Nat.mod_eq_of_lt (by have := l.isLt; omega)
  unfold firstWord
  rw [toNat_fold_minsi _ _ _ (by decide) (by
    intro l; split
    · rw [hsm]; have := l.isLt; omega
    · exact hN)]
  obtain ⟨l, hl⟩ := hex
  rw [Finset.fold_min_lt]
  refine Or.inr ⟨l, Finset.mem_univ _, ?_⟩
  rw [if_pos hl, hsm]; exact l.isLt

/-- One round of the choice: the row with the position of its largest entry struck out. -/
def strike (N : BitVec 32) (g : Fin n → EReal) (l : Fin n) : EReal :=
  if BitVec.ofNat 32 l.val = firstWord N g (Finset.univ.fold max ⊥ g) then ⊥ else g l

variable (N : BitVec 32) (hN : N.toNat < 2 ^ 31) (hn : n ≤ N.toNat)
include hN hn

/-- The word of a round is the next ranked position, as long as entries are left. -/
theorem firstWord_mask {f : Fin n → EReal} {p : Fin n → Fin n} (h : Ranked f p) (k : Fin n) (hb : f (p k) ≠ ⊥) :
    firstWord N (mask f p k.val) (Finset.univ.fold max ⊥ (mask f p k.val)) = BitVec.ofNat 32 (p k).val := by
  rw [max_mask h]
  exact firstWord_eq N hN hn _ _ _ (by rw [mask_at h, if_neg (lt_irrefl _)]) (first_mask h k hb)

/-- A round strikes out the next ranked entry. -/
theorem strike_mask {f : Fin n → EReal} {p : Fin n → Fin n} (h : Ranked f p) (k : Fin n) :
    strike N (mask f p k.val) = mask f p (k.val + 1) := by
  funext l
  by_cases hb : f (p k) = ⊥
  · have h1 := mask_bot h k hb l
    have h2 : mask f p (k.val + 1) l = ⊥ := le_bot_iff.mp (h1 ▸ mask_le h k.val l)
    rw [h2]; unfold strike; rw [h1]; exact ite_self _
  · unfold strike
    rw [firstWord_mask N hN hn h k hb, mask_succ h]
    have : (BitVec.ofNat 32 l.val = BitVec.ofNat 32 (p k).val) ↔ l = p k := by
      constructor
      · intro e
        have e' := congrArg BitVec.toNat e
        rw [BitVec.toNat_ofNat, BitVec.toNat_ofNat, Nat.mod_eq_of_lt (by have := l.isLt; omega),
          Nat.mod_eq_of_lt (by have := (p k).isLt; omega)] at e'
        exact Fin.ext e'
      · rintro rfl; rfl
    simp only [this]

end Cert.Order

end
-- ==== Proof.Index.lean ====
/- The words of the chosen frames, over the extended reals: each round's word is the first position of the largest
   entry left, so it names one of the thirty-two frames. -/
module

public import proofs.«01_k».proof.Proof.Vals
public import proofs.«01_k».proof.Proof.Order

@[expose] public section

set_option maxRecDepth 16384

noncomputable section

namespace Cert.KernelIdeal.Hand

open Cert.KernelIdeal Cert.KernelIdeal.Gen Cert.Order
open Idealize.ShloMosaic Idealize.ShloMosaic.TcCoe Idealize.ShloMosaic.Tactic

/-- The kernel's word for minus infinity is the least extended real. -/
theorem ofBits_negInf : Ideal.ofBits FTy.f32 4286578688#32 = ⊥ := by
  simp [Ideal.ofBits, Ideal.ieee]

/-- A fold over a pair of a single coordinate and another is a fold over the other. -/
theorem fold_unit_fst {n : ℕ} {β : Type} (op : β → β → β) [Std.Commutative op] [Std.Associative op] (b : β) (f : Fin n → β) :
    Finset.fold op b (fun x : Fin 1 × Fin n => f x.2) Finset.univ = Finset.fold op b f Finset.univ := by
  have : (Finset.univ : Finset (Fin 1 × Fin n)) = Finset.univ.map ⟨fun k => (0, k), fun a b h => (Prod.mk.inj h).2⟩ := by
    ext ⟨a, b⟩; simp only [Finset.mem_univ, Finset.mem_map, true_and, true_iff]
    exact ⟨b, Prod.ext (Subsingleton.elim _ _) rfl⟩
  rw [this, Finset.fold_map]; rfl

/-- The mean absolute change of each of the twenty-nine frame pairs. -/
def diffRow (v : FVec Ideal S320x2048 .f32) (l : Fin 29) : EReal := k0_pay2 v (ix2 0 l)

/-- A choice on the equality of two words, as an if. -/
theorem select_word {α : Type} (a b : BitVec 32) (x y : α) :
    Scalar.select (IntOp.cmpi CmpIPredicate.eq a b) x y = if a = b then x else y := by
  by_cases h : a = b
  · simp [Scalar.select, IntOp.cmpi, h]
  · have hb : (a == b) = false := beq_eq_false_iff_ne.mpr h
    simp [Scalar.select, IntOp.cmpi, h, hb]

/-- The first chosen word is the first position of the largest change. -/
theorem pay3_eq (v : FVec Ideal S320x2048 .f32) :
    extractAt ![0, 0, 0] (k0_pay3 v) inpos_S1x1x1_p0_0_0 = firstWord 32#32 (diffRow v) (Finset.univ.fold max ⊥ (diffRow v)) := by
  unfold k0_pay3 diffRow firstWord
  generalize k0_pay2 v = d
  pointwise
  simp only [ofBits_negInf]
  rw [fold_unit_fst max ⊥ (fun k => d (ix2 0 k))]
  rw [fold_unit_fst IntOp.minsi 2147483647#32 (fun k : Fin 29 => if d (ix2 0 k) = Finset.univ.fold max ⊥ (fun k => d (ix2 0 k)) then BitVec.ofNat 32 k.val else 32#32)]

/-- The row after the first round. -/
def row1 (v : FVec Ideal S320x2048 .f32) (l : Fin 29) : EReal := k0_pay4 v (ix2 0 l)

/-- The row after the first round is the row with that position struck out. -/
theorem row1_eq (v : FVec Ideal S320x2048 .f32) : row1 v = strike 32#32 (diffRow v) := by
  funext l
  have h3 := pay3_eq v
  unfold row1 k0_pay4 strike
  rw [← h3]
  unfold diffRow
  generalize k0_pay2 v = d
  generalize k0_pay3 v = w
  pointwise
  rw [select_word, ofBits_negInf]

/-- The second chosen word is the first position of the largest entry left. -/
theorem pay5_eq (v : FVec Ideal S320x2048 .f32) :
    extractAt ![0, 0, 0] (k0_pay5 v) inpos_S1x1x1_p0_0_0 = firstWord 32#32 (row1 v) (Finset.univ.fold max ⊥ (row1 v)) := by
  unfold k0_pay5 row1 firstWord
  generalize k0_pay4 v = d
  pointwise
  simp only [ofBits_negInf]
  rw [fold_unit_fst max ⊥ (fun k => d (ix2 0 k))]
  rw [fold_unit_fst IntOp.minsi 2147483647#32 (fun k : Fin 29 => if d (ix2 0 k) = Finset.univ.fold max ⊥ (fun k => d (ix2 0 k)) then BitVec.ofNat 32 k.val else 32#32)]

/-- The third chosen word is the first position of the largest entry left after two rounds. -/
theorem pay44_eq (v : FVec Ideal S320x2048 .f32) :
    extractAt ![0, 0, 0] (k0_pay44 (F := Ideal) (iota .tc S1x29 32 [1] iota_S1x29_d1_w32) (k0_pay4 v)
        (extractAt ![0, 0, 0] (k0_pay5 v) inpos_S1x1x1_p0_0_0)) inpos_S1x1x1_p0_0_0
      = firstWord 32#32 (strike 32#32 (row1 v)) (Finset.univ.fold max ⊥ (strike 32#32 (row1 v))) := by
  have hs : ∀ l, strike 32#32 (row1 v) l = if BitVec.ofNat 32 l.val = extractAt ![0, 0, 0] (k0_pay5 v) inpos_S1x1x1_p0_0_0 then ⊥ else row1 v l := by
    intro l; unfold strike; rw [pay5_eq]
  generalize extractAt ![0, 0, 0] (k0_pay5 v) inpos_S1x1x1_p0_0_0 = w at hs ⊢
  rw [show strike 32#32 (row1 v) = _ from funext hs]
  unfold k0_pay44 row1 firstWord
  generalize k0_pay4 v = d
  pointwise
  simp only [ofBits_negInf, select_word]
  rw [fold_unit_fst max ⊥ (fun k : Fin 29 => if BitVec.ofNat 32 k.val = w then ⊥ else d (ix2 0 k))]
  rw [fold_unit_fst IntOp.minsi 2147483647#32 (fun k : Fin 29 => if (if BitVec.ofNat 32 k.val = w then ⊥ else d (ix2 0 k)) = Finset.univ.fold max ⊥ (fun k : Fin 29 => if BitVec.ofNat 32 k.val = w then ⊥ else d (ix2 0 k)) then BitVec.ofNat 32 k.val else 32#32)]

/-- A word below twenty-nine plus three is below thirty-two. -/
theorem addi_lt (w : BitVec 32) (h : w.toNat < 29) : (Scalar.addi w 3#32).toNat < 32 := by
  have : (Scalar.addi w 3#32).toNat = (w.toNat + 3) % 2 ^ 32 := by
    simp [Scalar.addi, IntOp.addi]
  rw [this, Nat.mod_eq_of_lt (by omega)]; omega

/-- Each of the three words names one of the thirty-two frames. -/
theorem idxP_lt (B : Blocks Ideal) (k : Fin 3) : (idxP B k).toNat < 32 := by
  fin_cases k
  · refine addi_lt _ ?_
    rw [pay3_eq]; exact firstWord_max_lt _ (by decide) (by decide) (by decide) _
  · refine addi_lt _ ?_
    rw [pay5_eq]; exact firstWord_max_lt _ (by decide) (by decide) (by decide) _
  · refine addi_lt _ ?_
    rw [pay44_eq]; exact firstWord_max_lt _ (by decide) (by decide) (by decide) _

end Cert.KernelIdeal.Hand

end
-- ==== Proof.Spec.lean ====
/- The problem's mathematics on plain positions: what one sample's crops give, over the extended reals. Both programs are
   read as these functions. -/
module

public import Idealize.ShloMosaic.Lib.Pointwise

@[expose] public section

noncomputable section

namespace Cert.Spec

open Idealize.ShloMosaic

/-- The word of minus infinity. -/
abbrev ninf : EReal := Ideal.ofBits FTy.f32 4286578688#32

/-- The softmax of a row: exponentials above the row's largest entry, over their sum. -/
def soft {n : ℕ} (L : Fin n → EReal) (j : Fin n) : EReal :=
  Ideal.div (Ideal.exp (L j - max ninf (Finset.univ.fold max ninf L))) (∑ x, Ideal.exp (L x - max ninf (Finset.univ.fold max ninf L)))

/-- A projection of a crop's frames. -/
def proj (x : Fin 32 → Fin 2048 → EReal) (w : Fin 2048 → Fin 512 → EReal) (i : Fin 32) (d : Fin 512) : EReal := ∑ k, x i k * w k d

/-- Attention among a crop's thirty-two frames, the products scaled by `s`. -/
def att (s : EReal) (q k v : Fin 32 → Fin 512 → EReal) (i : Fin 32) (d : Fin 512) : EReal :=
  ∑ j, soft (fun j => (∑ e, q i e * k j e) * s) j * v j d

/-- A crop's features. -/
def feat (s : EReal) (x : Fin 32 → Fin 2048 → EReal) (wq wk wv : Fin 2048 → Fin 512 → EReal) (wo : Fin 512 → Fin 2048 → EReal)
    (i : Fin 32) (l : Fin 2048) : EReal :=
  max (∑ d, att s (proj x wq) (proj x wk) (proj x wv) i d * wo d l + x i l) 0

/-- The first layer of the score network. -/
def hid1 (f : Fin 32 → Fin 2048 → EReal) (w1 : Fin 2048 → Fin 512 → EReal) (b1 : Fin 512 → EReal) (i : Fin 32) (l : Fin 512) : EReal :=
  max (∑ k, f i k * w1 k l + b1 l) 0

/-- The mean over the ten crops of the frames' scores. -/
def score (f : Fin 10 → Fin 32 → Fin 2048 → EReal) (w1 : Fin 2048 → Fin 512 → EReal) (b1 : Fin 512 → EReal)
    (w2 : Fin 512 → Fin 128 → EReal) (b2 : Fin 128 → EReal) (w3 : Fin 128 → EReal) (b3 : EReal) (i : Fin 32) : EReal :=
  Ideal.div (∑ c, Ideal.logistic (∑ e, max (∑ d, hid1 (f c) w1 b1 i d * w2 d e + b2 e) 0 * w3 e + b3))
    (Ideal.ofBits FTy.f32 1092616192#32)

/-- The length of each frame's features over the temperature. -/
def mag (T : EReal) (f : Fin 32 → Fin 2048 → EReal) (i : Fin 32) : EReal :=
  Ideal.div (Ideal.sqrt (∑ l, f i l * f i l + Ideal.ofBits FTy.f32 730643660#32)) T

/-- The weighted features of a crop at temperature `T`. -/
def wfeat (T : EReal) (f : Fin 32 → Fin 2048 → EReal) (i : Fin 32) (l : Fin 2048) : EReal :=
  f i l * soft (mag T f) i * Ideal.ofBits FTy.f32 1107296256#32

/-- The mean over crops of a frame's features. -/
def mean10 (f : Fin 10 → Fin 32 → Fin 2048 → EReal) (i : Fin 32) (l : Fin 2048) : EReal :=
  Ideal.div (∑ c, f c i l) (Ideal.ofBits FTy.f32 1092616192#32)

/-- The mean absolute change between frames three apart. -/
def diff (f : Fin 10 → Fin 32 → Fin 2048 → EReal) (l : Fin 29) : EReal :=
  Ideal.div (∑ x, FloatOps.absf (F := Ideal) (φ := .f32) (mean10 f ⟨3 + l.val, by omega⟩ x - mean10 f ⟨l.val, by omega⟩ x))
    (Ideal.ofBits FTy.f32 1157627904#32)

end Cert.Spec

end
-- ==== Proof.KFeat.lean ====
/- The kernel's features, crop by crop. -/
module

public import proofs.«01_k».proof.Proof.Vals
public import proofs.«01_k».proof.Proof.Spec
public import Idealize.ShloMosaic.Lib.Pipeline.Value

@[expose] public section

set_option maxRecDepth 16384

noncomputable section

namespace Cert.KernelIdeal.Hand

open Cert.KernelIdeal Cert.KernelIdeal.Gen Cert.Spec
open Idealize.ShloMosaic Idealize.ShloMosaic.TcCoe Idealize.ShloMosaic.Tactic

/-- The kernel's scale. -/
def scaleK : EReal := Named.named (F := Ideal) κ "s" (φ := .f32) 0x3D3504F3#32

/-- Rows `32 c` to `32 c + 31` of a stack of ten crops. -/
def crop {n : ℕ} (c : Fin 10) (v : FVec Ideal ⟨2, ![320, n]⟩ .f32) (i : Fin 32) (d : Fin n) : EReal :=
  v (ix2 ⟨c.val * 32 + i.val, by omega⟩ d)

variable (q k v : FVec Ideal S320x512 .f32)

/-- Attention on the crop `c` of the stacked projections. -/
def attAt (c : Fin 10) (i : Fin 32) (d : Fin 512) : EReal := att scaleK (crop c q) (crop c k) (crop c v) i d

variable (i : Fin 32) (d : Fin 512)

/-- The kernel's block of attention number 2 is the attention on crop 2. -/
theorem att2 : k0_pay14 q k v (ix2 i d) = attAt q k v 2 i d := by
  unfold k0_pay14 attAt att soft crop scaleK; pointwise
/-- The kernel's block of attention number 3 is the attention on crop 3. -/
theorem att3 : k0_pay18 (k0_pay15 v) (k0_pay16 q k) (k0_pay17 q k) (ix2 i d) = attAt q k v 3 i d := by
  unfold k0_pay18 k0_pay17 k0_pay16 k0_pay15 attAt att soft crop scaleK; pointwise
/-- The kernel's block of attention number 4 is the attention on crop 4. -/
theorem att4 : k0_pay19 q k v (ix2 i d) = attAt q k v 4 i d := by
  unfold k0_pay19 attAt att soft crop scaleK; pointwise
/-- The kernel's block of attention number 5 is the attention on crop 5. -/
theorem att5 : k0_pay20 q k v (ix2 i d) = attAt q k v 5 i d := by
  unfold k0_pay20 attAt att soft crop scaleK; pointwise
/-- The kernel's block of attention number 6 is the attention on crop 6. -/
theorem att6 : k0_pay24 (k0_pay21 q) (k0_pay22 v) (k0_pay23 k) (constant S32x32 .f32 0x00000000#32) (ix2 i d) = attAt q k v 6 i d := by
  unfold k0_pay24 k0_pay23 k0_pay22 k0_pay21 attAt att soft crop scaleK; pointwise
/-- The kernel's block of attention number 7 is the attention on crop 7. -/
theorem att7 : k0_pay25 q k v (ix2 i d) = attAt q k v 7 i d := by
  unfold k0_pay25 attAt att soft crop scaleK; pointwise

/-- The kernel's block of attention number 0 is the attention on crop 0. -/
theorem att0 (x : Vec Ideal S1x10x32x2048 .f32) (w1 w2 w3 : Vec Ideal S2048x512 .f32) :
    k0_pay10 x w1 w2 w3 (ix2 i d) = attAt (k0_pay7 x w1) (k0_pay8 x w2) (k0_pay9 x w3) 0 i d := by
  unfold k0_pay10
  generalize k0_pay7 x w1 = q
  generalize k0_pay8 x w2 = k
  generalize k0_pay9 x w3 = v
  unfold attAt att soft crop scaleK; pointwise
/-- The kernel's block of attention number 1 is the attention on crop 1. -/
theorem att1 (x : Vec Ideal S1x10x32x2048 .f32) (w1 w2 w3 : Vec Ideal S2048x512 .f32) :
    k0_pay13 (k0_pay11 x w3) (k0_pay12 x w1 w2) (ix2 i d) = attAt (k0_pay7 x w1) (k0_pay8 x w2) (k0_pay9 x w3) 1 i d := by
  unfold k0_pay13 k0_pay12 k0_pay11
  generalize k0_pay7 x w1 = q
  generalize k0_pay8 x w2 = k
  generalize k0_pay9 x w3 = v
  unfold attAt att soft crop scaleK; pointwise

/-- The ninth crop's attention, from its logits and their largest entries. -/
def blk8 (v164 : FVec Ideal S32x512 .f32) (v168 : FVec Ideal S32x32 .f32) (v172 : FVec Ideal S32x1 .f32) : FVec Ideal S32x512 .f32 :=
  have e : FVec Ideal S32x32 .f32 := exp (subf v168 (broadcastTo S32x32 v172 broadcasts_S32x1_S32x32))
  have s : FVec Ideal S32 .f32 := multiReduction .add [1] S32 e 0x00000000#32 reduces_S32x32_S32 (.inl rfl) rfl
  matmul dot_S32x32_S32x512_S32x512_1_0_0_1_n_n none
    (divf e (broadcastTo S32x32 (shapeCast S32x1 s shapeCasts_S32_S32x1) broadcasts_S32x1_S32x32)) v164 (constant S32x512 .f32 0x00000000#32)

/-- The tenth crop's attention. -/
def blk9 : FVec Ideal S32x512 .f32 :=
  have kt : FVec Ideal S512x32 .f32 := transpose S512x32 [1, 0] (extractStridedSlice S32x512 ![288, 0] k slices_S320x512_o288_0_S32x512) transposes_S32x512_p1_0_S512x32
  have g : FVec Ideal S32x32 .f32 := matmul dot_S32x512_S512x32_S32x32_1_0_0_1_n_n none
    (extractStridedSlice S32x512 ![288, 0] q slices_S320x512_o288_0_S32x512) kt (constant S32x32 .f32 0x00000000#32)
  have L : FVec Ideal S32x32 .f32 := mulf g (broadcast S32x32 (Named.named κ "s" 0x3D3504F3#32))
  have M : FVec Ideal S32 .f32 := maximumf (broadcast S32 (Scalar.ofBits .f32 0xFF800000#32))
    (multiReduction .maximumf [1] S32 L 0xFF800000#32 reduces_S32x32_S32 (.inl rfl) rfl)
  blk8 (extractStridedSlice S32x512 ![288, 0] v slices_S320x512_o288_0_S32x512) L (shapeCast S32x1 M shapeCasts_S32_S32x1)

/-- The kernel's block of attention number 8 is the attention on crop 8. -/
theorem att8 : blk8 (k0_pay26 v) (k0_pay27 q k) (k0_pay28 q k) (ix2 i d) = attAt q k v 8 i d := by
  unfold blk8 k0_pay28 k0_pay27 k0_pay26 attAt att soft crop scaleK; pointwise
/-- The kernel's block of attention number 9 is the attention on crop 9. -/
theorem att9 : blk9 q k v (ix2 i d) = attAt q k v 9 i d := by
  unfold blk9 blk8 attAt att soft crop scaleK; pointwise

/-- The ten crops' attention, one above the other, projected back, with the input added and cut at zero. -/
def joined (x3 : FVec Ideal S320x2048 .f32) (f : Fin 10 → FVec Ideal S32x512 .f32) (wo : Vec Ideal S512x2048 .f32) : FVec Ideal S320x2048 .f32 :=
  maximumf (addf (matmul (φ₁ := .f32) (φ₂ := .f32) dot_S320x512_S512x2048_S320x2048_1_0_0_1_n_n none
    (concatenate S320x512 0 [⟨S32x512, f 0⟩, ⟨S32x512, f 1⟩, ⟨S32x512, f 2⟩, ⟨S32x512, f 3⟩, ⟨S32x512, f 4⟩, ⟨S32x512, f 5⟩, ⟨S32x512, f 6⟩, ⟨S32x512, f 7⟩, ⟨S32x512, f 8⟩, ⟨S32x512, f 9⟩] concatenates_S32x512_S32x512_S32x512_S32x512_S32x512_S32x512_S32x512_S32x512_S32x512_S32x512_S320x512_d0)
    wo (constant S320x2048 .f32 0x00000000#32)) x3) (broadcast S320x2048 (Scalar.ofBits .f32 0x00000000#32))

/-- The ten blocks of attention. -/
def blks (B : Blocks Ideal) : Fin 10 → FVec Ideal S32x512 .f32 :=
  ![v28 B, v47 B, v66 B, v85 B, v104 B, v123 B, v142 B, v161 B, blk8 (k0_pay26 (v9 B)) (k0_pay27 (v5 B) (v7 B)) (k0_pay28 (v5 B) (v7 B)), blk9 (v5 B) (v7 B) (v9 B)]

/-- The kernel's features are made of its ten blocks of attention. -/
theorem v205_joined (B : Blocks Ideal) : v205 B = joined (k0_pay6 B.x1) (blks B) B.x5 := rfl

/-- Each of the ten blocks is the attention on its own crop. -/
theorem blks_eq (B : Blocks Ideal) (c : Fin 10) : blks B c (ix2 i d) = attAt (v5 B) (v7 B) (v9 B) c i d := by
  fin_cases c
  · exact att0 i d B.x1 B.x2 B.x3 B.x4
  · exact att1 i d B.x1 B.x2 B.x3 B.x4
  · exact att2 _ _ _ i d
  · exact att3 _ _ _ i d
  · exact att4 _ _ _ i d
  · exact att5 _ _ _ i d
  · exact att6 _ _ _ i d
  · exact att7 _ _ _ i d
  · exact att8 _ _ _ i d
  · exact att9 _ _ _ i d

/-- Ten blocks one above the other: an entry of the stack is the block's own entry. -/
theorem concat_at (f : Fin 10 → FVec Ideal S32x512 .f32) (c : Fin 10) :
    concatenate S320x512 0 [⟨S32x512, f 0⟩, ⟨S32x512, f 1⟩, ⟨S32x512, f 2⟩, ⟨S32x512, f 3⟩, ⟨S32x512, f 4⟩, ⟨S32x512, f 5⟩, ⟨S32x512, f 6⟩, ⟨S32x512, f 7⟩, ⟨S32x512, f 8⟩, ⟨S32x512, f 9⟩] concatenates_S32x512_S32x512_S32x512_S32x512_S32x512_S32x512_S32x512_S32x512_S32x512_S32x512_S320x512_d0
      (ix2 ⟨c.val * 32 + i.val, by omega⟩ d) = f c (ix2 i d) := by
  refine concatenate_ofFn_apply (t := S320x512) 0 f concatenates_S32x512_S32x512_S32x512_S32x512_S32x512_S32x512_S32x512_S32x512_S32x512_S32x512_S320x512_d0 rfl 32 rfl _ c ?_ (ix2 i d) ?_ ?_
  · show (c.val * 32 + i.val) / 32 = c.val
    omega
  · show i.val = (c.val * 32 + i.val) % 32
    omega
  · intro b hb
    fin_cases b
    · exact absurd rfl hb
    · rfl

/-- A sample's ten crops of input frames. -/
def xs (B : Blocks Ideal) (c : Fin 10) (i : Fin 32) (l : Fin 2048) : EReal := B.x1 (ix4 0 c i l)

/-- A matrix on its two positions. -/
def mat {a b : ℕ} (w : FVec Ideal ⟨2, ![a, b]⟩ .f32) (i : Fin a) (j : Fin b) : EReal := w (ix2 i j)

/-- The features of the sample's crops. -/
def feats (B : Blocks Ideal) (c : Fin 10) : Fin 32 → Fin 2048 → EReal :=
  feat scaleK (xs B c) (mat B.x2) (mat B.x3) (mat B.x4) (mat B.x5)

/-- An entry of the joined blocks: the projected attention plus the input, cut at zero. -/
theorem joined_at (x3 : FVec Ideal S320x2048 .f32) (f : Fin 10 → FVec Ideal S32x512 .f32) (wo : Vec Ideal S512x2048 .f32) (c : Fin 10) (l : Fin 2048) :
    joined x3 f wo (ix2 ⟨c.val * 32 + i.val, by omega⟩ l)
      = max (∑ d, f c (ix2 i d) * wo (ix2 d l) + x3 (ix2 ⟨c.val * 32 + i.val, by omega⟩ l)) 0 := by
  have h := fun d => concat_at i d f c
  unfold joined
  generalize concatenate (α := Ideal .f32) S320x512 0 _ _ = z at h ⊢
  pointwise
  simp only [h]

/-- The input with its crops stacked, at a crop's frame. -/
theorem pay6_at (x : Vec Ideal S1x10x32x2048 .f32) (c : Fin 10) (l : Fin 2048) :
    k0_pay6 x (ix2 ⟨c.val * 32 + i.val, by omega⟩ l) = x (ix4 0 c i l) := by
  unfold k0_pay6; pointwise

/-- A crop of the stacked queries is the projection of that crop. -/
theorem crop_v5 (B : Blocks Ideal) (c : Fin 10) : crop c (v5 B) = proj (xs B c) (mat B.x2) := by
  funext i d; unfold crop v5 k0_pay7 k0_pay6 proj xs mat; pointwise
/-- A crop of the stacked keys is the projection of that crop. -/
theorem crop_v7 (B : Blocks Ideal) (c : Fin 10) : crop c (v7 B) = proj (xs B c) (mat B.x3) := by
  funext i d; unfold crop v7 k0_pay8 k0_pay6 proj xs mat; pointwise
/-- A crop of the stacked values is the projection of that crop. -/
theorem crop_v9 (B : Blocks Ideal) (c : Fin 10) : crop c (v9 B) = proj (xs B c) (mat B.x4) := by
  funext i d; unfold crop v9 k0_pay9 k0_pay6 proj xs mat; pointwise

/-- The kernel's features are the problem's, crop by crop. -/
theorem v205_at (B : Blocks Ideal) (c : Fin 10) (l : Fin 2048) :
    v205 B (ix2 ⟨c.val * 32 + i.val, by omega⟩ l) = feats B c i l := by
  rw [v205_joined, joined_at, pay6_at]
  simp only [blks_eq]
  unfold feats feat attAt
  rw [crop_v5, crop_v7, crop_v9]
  rfl

end Cert.KernelIdeal.Hand

end
-- ==== Proof.KRest.lean ====
/- The kernel's scores, weighted features, largest entries and chosen frames of one sample, as the problem's mathematics. -/
module

public import proofs.«01_k».proof.Proof.KFeat
public import proofs.«01_k».proof.Proof.Index
public import proofs.«01_k».proof.Proof.Cells
public import Idealize.ShloMosaic.Lib.IdealHost

@[expose] public section

set_option maxRecDepth 16384

noncomputable section

namespace Cert.KernelIdeal.Hand

open Cert.KernelIdeal Cert.KernelIdeal.Gen Cert.Spec Cert.Order
open Idealize.ShloMosaic Idealize.ShloMosaic.TcCoe Idealize.ShloMosaic.Tactic

variable (B : Blocks Ideal)

/-- A row vector on its positions. -/
def vec {n : ℕ} (v : FVec Ideal ⟨2, ![1, n]⟩ .f32) (j : Fin n) : EReal := v (ix2 0 j)

/-- An entry of the first hidden layer. -/
theorem v213_at (r : Fin 320) (l : Fin 512) :
    v213 B (ix2 r l) = max (∑ k, v205 B (ix2 r k) * B.x6 (ix2 k l) + B.x7 (ix2 0 l)) 0 := by
  have e : v213 B = maximumf (addf (matmul (φ₁ := .f32) (φ₂ := .f32) dot_S320x2048_S2048x512_S320x512_1_0_0_1_n_n none (v205 B) B.x6 (constant S320x512 .f32 0x00000000#32))
      (broadcastTo S320x512 (shapeCast S1x512 B.x7 shapeCasts_S1x512_S1x512) broadcasts_S1x512_S320x512)) (broadcast S320x512 (Scalar.ofBits .f32 0x00000000#32)) := rfl
  rw [e]
  generalize v205 B = v
  pointwise

/-- The scores of a sample's frames. -/
def scoresK (i : Fin 32) : EReal :=
  score (feats B) (mat B.x6) (vec B.x7) (mat B.x8) (vec B.x9) (vec B.x10) (B.x11 (ix2 0 0)) i

/-- The mean scores that the kernel computes are the scores of the sample's frames. -/
theorem v236_at (i : Fin 32) : v236 B (ix1 i) = scoresK B i := by
  have h : ∀ c : Fin 10, ∀ l, v213 B (ix2 ⟨c.val * 32 + i.val, by omega⟩ l) = hid1 (feats B c) (mat B.x6) (vec B.x7) i l := by
    intro c l
    rw [v213_at]
    simp only [v205_at]
    rfl
  unfold v236 k0_pay31 scoresK score
  generalize v213 B = v at h ⊢
  pointwise
  simp only [h]
  rfl

/-- The block of scores that the kernel writes holds the scores of the sample's frames. -/
theorem scoresP_at (i : Fin 32) : scoresP B (ix3 0 0 i) = scoresK B i := by
  rw [← v236_at]
  unfold scoresP k0_pay32 v236
  pointwise

variable (p : BitVec 1)

/-- The temperature of a half of the grid. -/
def temp : EReal := Scalar.select p (Ideal.ofBits FTy.f32 1086324736#32) (Ideal.ofBits FTy.f32 1084227584#32)

/-- The magnitudes over the temperature, at a crop's frame. -/
theorem v248_at (c : Fin 10) (i : Fin 32) : v248 B p (ix2 c i) = mag (temp p) (feats B c) i := by
  have h := fun l => v205_at i B c l
  unfold v248 k0_pay33 mag temp
  generalize v205 B = v at h ⊢
  pointwise
  simp only [h]

/-- The largest of a crop's magnitudes over the temperature. -/
theorem v251_at (c : Fin 10) : v251 B p (ix1 c) = max ninf (Finset.univ.fold max ninf (mag (temp p) (feats B c))) := by
  have h := v248_at B p c
  unfold v251 k0_pay34
  unfold v248 at h
  generalize k0_pay33 p (v205 B) = v at h ⊢
  pointwise
  simp only [h]

/-- The weighted features, at a crop's frame. -/
theorem pay35_at (c : Fin 10) (i : Fin 32) (l : Fin 2048) :
    k0_pay35 (v205 B) (v248 B p) (v251 B p) (ix3 c i l) = wfeat (temp p) (feats B c) i l := by
  have h := v205_at i B c l
  have h1 := v248_at B p c
  have h2 := v251_at B p c
  unfold k0_pay35 wfeat soft
  generalize v205 B = v at h ⊢
  generalize v248 B p = a at h1 ⊢
  generalize v251 B p = b at h2 ⊢
  pointwise
  simp only [h, h1, h2]

/-- The weighted features as kept in the scratch buffer, at a crop's frame. -/
theorem distP_at (c : Fin 10) (i : Fin 32) (l : Fin 2048) : distP B p (ix3 c i l) = wfeat (temp p) (feats B c) i l := by
  rw [← pay35_at]
  unfold distP k0_pay36
  generalize k0_pay35 (F := Ideal) _ _ _ = v
  pointwise

/-- The weighted features with their crops stacked, at a crop's frame. -/
theorem pay37_at (c : Fin 10) (i : Fin 32) (l : Fin 2048) :
    k0_pay37 (v205 B) (v248 B p) (v251 B p) (ix2 ⟨c.val * 32 + i.val, by omega⟩ l) = wfeat (temp p) (feats B c) i l := by
  rw [← pay35_at]
  unfold k0_pay37
  generalize k0_pay35 (F := Ideal) _ _ _ = v
  pointwise

/-! The four rounds of the choice of the largest weighted features, for any row. -/

section rounds
variable (v : FVec Ideal S320x2048 .f32) (a : FVec Ideal S10x32 .f32) (b : FVec Ideal S10 .f32) (r : Fin 320)

/-- One row of the weighted features. -/
def row0 (l : Fin 2048) : EReal := k0_pay37 v a b (ix2 r l)

/-- The first round finds the row's largest entry. -/
theorem pay38_at : k0_pay38 v a b (ix2 r 0) = Finset.univ.fold max ⊥ (row0 v a b r) := by
  unfold k0_pay38 row0
  generalize k0_pay37 v a b = d
  pointwise
  simp only [ofBits_negInf]

/-- After the first round the first position of the largest entry is struck out. -/
theorem pay39_at : (fun l => k0_pay39 v a b (ix2 r l)) = strike 2048#32 (row0 v a b r) := by
  funext l
  have h := pay38_at v a b r
  unfold k0_pay39 strike firstWord
  rw [← h]
  unfold row0
  generalize k0_pay37 v a b = d
  generalize k0_pay38 v a b = m
  pointwise
  simp only [select_word, ofBits_negInf]

/-- The second round finds the largest entry left. -/
theorem pay40_at : k0_pay40 v a b (ix2 r 0) = Finset.univ.fold max ⊥ (fun l => k0_pay39 v a b (ix2 r l)) := by
  unfold k0_pay40
  generalize k0_pay39 v a b = d
  pointwise
  simp only [ofBits_negInf]

/-- After the second round one more position is struck out. -/
theorem pay41_at : (fun l => k0_pay41 v a b (ix2 r l)) = strike 2048#32 (fun l => k0_pay39 v a b (ix2 r l)) := by
  funext l
  have h := pay40_at v a b r
  unfold k0_pay41 strike firstWord
  rw [← h]
  generalize k0_pay39 v a b = d
  generalize k0_pay40 v a b = m
  pointwise
  simp only [select_word, ofBits_negInf]

/-- The third round finds the largest entry left. -/
theorem pay42_at : k0_pay42 v a b (ix2 r 0) = Finset.univ.fold max ⊥ (fun l => k0_pay41 v a b (ix2 r l)) := by
  unfold k0_pay42
  generalize k0_pay41 v a b = d
  pointwise
  simp only [ofBits_negInf]

/-- The last round, and the four columns side by side. -/
theorem pay43_at (m0 m1 m2 : FVec Ideal S320x1 .f32) (d : FVec Ideal S320x2048 .f32) (c : Fin 10) (i : Fin 32) (k : Fin 4)
    (h2 : ∀ r, m2 (ix2 r 0) = Finset.univ.fold max ⊥ (fun l => d (ix2 r l))) :
    k0_pay43 (F := Ideal) (iota .tc S320x2048 32 [1] iota_S320x2048_d1_w32) m0 m1 d m2 (ix4 0 c i k)
      = ![m0 (ix2 ⟨c.val * 32 + i.val, by omega⟩ 0), m1 (ix2 ⟨c.val * 32 + i.val, by omega⟩ 0), m2 (ix2 ⟨c.val * 32 + i.val, by omega⟩ 0),
          Finset.univ.fold max ⊥ (strike 2048#32 (fun l => d (ix2 ⟨c.val * 32 + i.val, by omega⟩ l)))] k := by
  unfold strike firstWord
  rw [← h2]
  unfold k0_pay43
  fin_cases k
  · pointwise
  · pointwise
  · pointwise
  · pointwise
    simp only [select_word, ofBits_negInf]
    rfl

end rounds

/-- The stored values are the row's four largest entries in order. -/
theorem topkP_at (c : Fin 10) (i : Fin 32) (k : Fin 4) (π : Fin 2048 → Fin 2048) (h : Ranked (wfeat (temp p) (feats B c) i) π) :
    topkP B p (ix4 0 c i k) = wfeat (temp p) (feats B c) i (π ⟨k.val, by omega⟩) := by
  have hr : row0 (v205 B) (v248 B p) (v251 B p) ⟨c.val * 32 + i.val, by omega⟩ = wfeat (temp p) (feats B c) i :=
    funext fun l => pay37_at B p c i l
  have N1 : (2048#32 : BitVec 32).toNat < 2 ^ 31 := by decide
  have N2 : 2048 ≤ (2048#32 : BitVec 32).toNat := by decide
  have s0 := pay38_at (v205 B) (v248 B p) (v251 B p) ⟨c.val * 32 + i.val, by omega⟩
  have e1 := pay39_at (v205 B) (v248 B p) (v251 B p) ⟨c.val * 32 + i.val, by omega⟩
  have s1 := pay40_at (v205 B) (v248 B p) (v251 B p) ⟨c.val * 32 + i.val, by omega⟩
  have e2 := pay41_at (v205 B) (v248 B p) (v251 B p) ⟨c.val * 32 + i.val, by omega⟩
  have s2 := pay42_at (v205 B) (v248 B p) (v251 B p) ⟨c.val * 32 + i.val, by omega⟩
  rw [hr, ← mask_zero (wfeat (temp p) (feats B c) i) π] at s0 e1
  have q1 := strike_mask 2048#32 N1 N2 h ⟨0, by omega⟩
  have q2 := strike_mask 2048#32 N1 N2 h ⟨1, by omega⟩
  have q3 := strike_mask 2048#32 N1 N2 h ⟨2, by omega⟩
  have m0 := max_mask h ⟨0, by omega⟩
  have m1 := max_mask h ⟨1, by omega⟩
  have m2 := max_mask h ⟨2, by omega⟩
  have m3 := max_mask h ⟨3, by omega⟩
  simp only at q1 q2 q3 m0 m1 m2 m3
  rw [q1] at e1
  rw [e1] at s1 e2
  rw [q2] at e2
  rw [e2] at s2
  unfold topkP
  rw [pay43_at _ _ _ _ c i k (pay42_at (v205 B) (v248 B p) (v251 B p)), s0, s1, s2, e2, q3, m0, m1, m2, m3]
  fin_cases k <;> rfl

/-! The chosen frames. -/

/-- The kernel's row of changes is the mean absolute change of the sample's features three frames apart. -/
theorem diffRow_at : diffRow (v205 B) = diff (feats B) := by
  funext l
  have h := fun c i l => v205_at i B c l
  unfold diffRow k0_pay2 diff mean10
  generalize v205 B = v at h ⊢
  pointwise
  have ha : ∀ (x : Fin 2048) (x1 : Fin 10), v (ix2 ⟨x1.val * 32 + (3 + l.val), by omega⟩ x) = feats B x1 ⟨3 + l.val, by omega⟩ x :=
    fun x x1 => h x1 ⟨3 + l.val, by omega⟩ x
  have hb : ∀ (x : Fin 2048) (x1 : Fin 10), v (ix2 ⟨x1.val * 32 + l.val, by omega⟩ x) = feats B x1 ⟨l.val, by omega⟩ x :=
    fun x x1 => h x1 ⟨l.val, by omega⟩ x
  simp only [ha, hb]

/-- A mean absolute change is not minus infinity. -/
theorem diff_ne_bot (f : Fin 10 → Fin 32 → Fin 2048 → EReal) (l : Fin 29) : diff f l ≠ ⊥ := by
  have h2 : (0 : EReal) < Ideal.ofBits FTy.f32 1157627904#32 := by
    simp [Ideal.ofBits, Ideal.ieee, -EReal.coe_mul]
    first | done | (rw [← EReal.coe_mul]; exact EReal.coe_pos.mpr (by norm_num))
  have hs : (0 : EReal) ≤ ∑ x, FloatOps.absf (F := Ideal) (φ := .f32) (mean10 f ⟨3 + l.val, by omega⟩ x - mean10 f ⟨l.val, by omega⟩ x) := by
    refine Finset.sum_nonneg fun x _ => ?_
    generalize (mean10 f ⟨3 + l.val, by omega⟩ x - mean10 f ⟨l.val, by omega⟩ x : EReal) = z
    show (0 : EReal) ≤ max z (-z)
    rcases le_total 0 z with hz | hz
    · exact le_max_of_le_left hz
    · exact le_max_of_le_right (EReal.neg_nonneg.mpr hz)
  unfold diff Ideal.div
  rw [if_neg h2.ne']
  refine (lt_of_lt_of_le (bot_lt_iff_ne_bot.mpr (by decide)) (mul_nonneg hs ?_)).ne'
  exact EReal.inv_nonneg_of_nonneg h2.le

/-- The three words are the positions of the three largest changes, three frames on. -/
theorem idxP_at (π : Fin 29 → Fin 29) (h : Ranked (diff (feats B)) π) (k : Fin 3) :
    idxP B k = BitVec.ofNat 32 ((π ⟨k.val, by omega⟩).val + 3) := by
  have N1 : (32#32 : BitVec 32).toNat < 2 ^ 31 := by decide
  have N2 : 29 ≤ (32#32 : BitVec 32).toNat := by decide
  have fin : ∀ (w : BitVec 32) (j : Fin 29), w = BitVec.ofNat 32 j.val → Scalar.addi w 3#32 = BitVec.ofNat 32 (j.val + 3) := by
    rintro w j rfl
    apply BitVec.eq_of_toNat_eq
    simp [Scalar.addi, IntOp.addi]
  have e1 : row1 (v205 B) = mask (diff (feats B)) π 1 := by
    rw [row1_eq, diffRow_at, ← mask_zero (diff (feats B)) π]
    exact strike_mask 32#32 N1 N2 h ⟨0, by omega⟩
  have e2 : strike 32#32 (row1 (v205 B)) = mask (diff (feats B)) π 2 := by
    rw [e1]
    exact strike_mask 32#32 N1 N2 h ⟨1, by omega⟩
  fin_cases k
  · refine fin _ _ ?_
    rw [pay3_eq, diffRow_at, ← mask_zero (diff (feats B)) π]
    exact firstWord_mask 32#32 N1 N2 h ⟨0, by omega⟩ (diff_ne_bot _ _)
  · refine fin _ _ ?_
    rw [pay5_eq, e1]
    exact firstWord_mask 32#32 N1 N2 h ⟨1, by omega⟩ (diff_ne_bot _ _)
  · refine fin _ _ ?_
    rw [pay44_eq, e2]
    exact firstWord_mask 32#32 N1 N2 h ⟨2, by omega⟩ (diff_ne_bot _ _)

/-- The mean of the scores of the frames three words name. -/
theorem selP_at (w : Fin 3 → BitVec 32) (j : Fin 3 → Fin 32) (hw : ∀ k, w k = BitVec.ofNat 32 (j k).val) (e : Fin 128) :
    selP B w (ix3 0 0 e) = Ideal.div (∑ k, scoresK B (j k)) (Ideal.ofBits FTy.f32 1077936128#32) := by
  have h := v236_at B
  unfold selP k0_pay1 k0_pay50 k0_pay47 k0_pay45
  generalize v236 B = v at h ⊢
  pointwise
  simp only [select_word, hw, h]
  have one : ∀ k, (∑ x : Fin 32, if BitVec.ofNat 32 x.val = BitVec.ofNat 32 (j k).val then scoresK B x else 0) = scoresK B (j k) := by
    intro k
    rw [Finset.sum_eq_single (j k)]
    · simp
    · intro x _ hx
      rw [if_neg]
      intro e
      have e' := congrArg BitVec.toNat e
      rw [BitVec.toNat_ofNat, BitVec.toNat_ofNat, Nat.mod_eq_of_lt (by have := x.isLt; omega),
        Nat.mod_eq_of_lt (by have := (j k).isLt; omega)] at e'
      exact hx (Fin.ext e')
    · intro hx; exact absurd (Finset.mem_univ _) hx
  simp only [one, Finset.univ_unique, Finset.sum_singleton]
  rw [Fin.sum_univ_three]

end Cert.KernelIdeal.Hand

end
-- ==== Proof.KSel.lean ====
/- The rows of the weighted features the kernel picks out by index, entry by entry. -/
module

public import proofs.«01_k».proof.Proof.Cells
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The offsets of the read a word addresses. -/
theorem chk_of (w : BitVec 32) (j : Fin 32) (hw : w = BitVec.ofNat 32 j.val) : k0_off5 w = ![0, j.val, 0] := by
  subst hw
  have : (BitVec.ofNat 32 j.val).toNat = j.val := by
    rw [BitVec.toNat_ofNat]; exact Nat.mod_eq_of_lt (by have := j.isLt; omega)
  simp [k0_off5, Scalar.indexCast, this]

/-- The row a word addresses, entry by entry. -/
theorem rowAt_at (D : Vec Ideal S10x32x2048 .f32) (w : BitVec 32) (j : Fin 32) (hw : w = BitVec.ofNat 32 j.val) (c : Fin 10) (l : Fin 2048) :
    rowAt D w (ix3 c 0 l) = D (ix3 c j l) := by
  have ho := chk_of w j hw
  have hc : k0_chk1 w := by
    unfold k0_chk1
    rw [ho]
    have := j.isLt
    intro a; fin_cases a
    · exact le_rfl
    · show j.val + 1 ≤ 32; omega
    · exact le_rfl
  rw [rowAt, dif_pos hc]
  show D _ = D _
  congr 1
  funext a
  apply Fin.ext
  refine (congrArg (· + 1 * _) (congrFun ho a)).trans ?_
  fin_cases a
  · show 0 + 1 * c.val = c.val; omega
  · show j.val + 1 * 0 = j.val; omega
  · show 0 + 1 * l.val = l.val; omega

/-- Under a slab's write the slab is read. -/
theorem slab_hit {off : Fin 4 → ℕ} {inb : ∀ a, off a + S1x1x10x2048.size a ≤ S1x3x10x2048.size a} (W : Vec Ideal S1x1x10x2048 .f32)
    (L : List (View.Piece (Elt Ideal) S1x3x10x2048 .f32)) (y : S1x3x10x2048.Idx) {k : ℕ} (hoff : off = ![0, k, 0, 0]) (hk : (y 1).val = k) :
    View.canon (⟨Rect.unit (s := S1x3x10x2048) off S1x1x10x2048.size inb, W⟩ :: L) y = W (ix4 0 0 (y 2) (y 3)) := by
  have he : y = (Rect.unit (s := S1x3x10x2048) off S1x1x10x2048.size inb).emb (ix4 0 0 (y 2) (y 3) : S1x1x10x2048.Idx) := by
    funext a
    apply Fin.ext
    refine Eq.trans ?_ (congrArg (· + 1 * _) (congrFun hoff a)).symm
    fin_cases a
    · show (y 0).val = 0 + 1 * 0
      have : (y 0).val < 1 := (y 0).isLt
      omega
    · show (y 1).val = k + 1 * 0; omega
    · show (y 2).val = 0 + 1 * (y 2).val; omega
    · show (y 3).val = 0 + 1 * (y 3).val; omega
  have hc := View.canon_cons_emb (Val := Elt Ideal) (Rect.unit (s := S1x3x10x2048) off S1x1x10x2048.size inb) W L (ix4 0 0 (y 2) (y 3) : S1x1x10x2048.Idx)
  rw [← he] at hc
  exact hc

/-- Off a slab's write the earlier writes are read. -/
theorem slab_miss {off : Fin 4 → ℕ} {inb : ∀ a, off a + S1x1x10x2048.size a ≤ S1x3x10x2048.size a} (W : Vec Ideal S1x1x10x2048 .f32)
    (L : List (View.Piece (Elt Ideal) S1x3x10x2048 .f32)) {y : S1x3x10x2048.Idx} {k : ℕ} (hoff : off = ![0, k, 0, 0]) (hk : (y 1).val ≠ k) :
    View.canon (⟨Rect.unit (s := S1x3x10x2048) off S1x1x10x2048.size inb, W⟩ :: L) y = View.canon L y :=
  View.canon_cons_of_not_mem _ L fun hm => by
    have h2 : y ∈ (Rect.unit (s := S1x3x10x2048) off S1x1x10x2048.size inb).set := hm
    have h3 := Rect.mem_set_unit.mp h2 1
    rw [show off 1 = k from congrFun hoff 1] at h3
    have h4 : k ≤ (y 1).val ∧ (y 1).val < k + 1 := h3
    omega

/-- The rows of the weighted features the three words name. -/
theorem featP_at (D : Vec Ideal S10x32x2048 .f32) (w : Fin 3 → BitVec 32) (j : Fin 3 → Fin 32) (hw : ∀ k, w k = BitVec.ofNat 32 (j k).val)
    (k : Fin 3) (c : Fin 10) (l : Fin 2048) : featP D w (ix4 0 k c l) = D (ix3 c (j k) l) := by
  have h0 : featP D w (ix4 0 0 c l) = D (ix3 c (j 0) l) := by
    unfold featP
    rw [slab_miss _ _ (y := ix4 0 0 c l) (k := 2) rfl (by show (0 : ℕ) ≠ 2; decide), slab_miss _ _ (y := ix4 0 0 c l) (k := 1) rfl (by show (0 : ℕ) ≠ 1; decide)]
    refine (slab_hit _ [] _ (k := 0) rfl rfl).trans ?_
    refine Eq.trans ?_ (rowAt_at D (w 0) (j 0) (hw 0) c l)
    generalize rowAt D (w 0) = R
    show k0_pay46 R (ix4 0 0 c l) = _
    unfold k0_pay46; pointwise
  have h1 : featP D w (ix4 0 1 c l) = D (ix3 c (j 1) l) := by
    unfold featP
    rw [slab_miss _ _ (y := ix4 0 1 c l) (k := 2) rfl (by show (1 : ℕ) ≠ 2; decide)]
    refine (slab_hit _ _ _ (k := 1) rfl rfl).trans ?_
    refine Eq.trans ?_ (rowAt_at D (w 1) (j 1) (hw 1) c l)
    generalize rowAt D (w 1) = R
    show k0_pay48 R (ix4 0 0 c l) = _
    unfold k0_pay48; pointwise
  have h2 : featP D w (ix4 0 2 c l) = D (ix3 c (j 2) l) := by
    unfold featP
    refine (slab_hit _ _ _ (k := 2) rfl rfl).trans ?_
    refine Eq.trans ?_ (rowAt_at D (w 2) (j 2) (hw 2) c l)
    generalize rowAt D (w 2) = R
    show k0_pay49 R (ix4 0 0 c l) = _
    unfold k0_pay49; pointwise
  fin_cases k
  · exact h0
  · exact h1
  · exact h2

end Cert.KernelIdeal.Hand

end
-- ==== Proof.Results.lean ====
/- The results as functions of the arguments, on plain positions: what both programs compute. -/
module

public import proofs.«01_k».proof.Proof.Spec
public import proofs.«01_k».proof.Proof.Order

@[expose] public section

noncomputable section

namespace Cert.Spec

open Idealize.ShloMosaic Cert.Order

/-- The arguments on plain positions. -/
structure Args where
  x : Fin 16 → Fin 10 → Fin 32 → Fin 2048 → EReal
  wq : Fin 2048 → Fin 512 → EReal
  wk : Fin 2048 → Fin 512 → EReal
  wv : Fin 2048 → Fin 512 → EReal
  wo : Fin 512 → Fin 2048 → EReal
  w1 : Fin 2048 → Fin 512 → EReal
  b1 : Fin 512 → EReal
  w2 : Fin 512 → Fin 128 → EReal
  b2 : Fin 128 → EReal
  w3 : Fin 128 → EReal
  b3 : EReal

variable (A : Args)

/-- The scale of the attention products: one over the square root of 512. -/
def scale : EReal := (((Real.sqrt 512)⁻¹ : ℝ) : EReal)

/-- The features of a sample's crops. -/
def Args.f (s : Fin 16) (c : Fin 10) : Fin 32 → Fin 2048 → EReal := feat scale (A.x s c) A.wq A.wk A.wv A.wo

/-- The scores of a sample's frames. -/
def Args.sc (s : Fin 16) (i : Fin 32) : EReal := score (A.f s) A.w1 A.b1 A.w2 A.b2 A.w3 A.b3 i

/-- The temperature of a sample: five for the first eight, six for the last eight. -/
def temper (s : Fin 16) : EReal := if s.val < 8 then Ideal.ofBits FTy.f32 1084227584#32 else Ideal.ofBits FTy.f32 1086324736#32

/-- The weighted features of a sample's crops. -/
def Args.wf (s : Fin 16) (c : Fin 10) : Fin 32 → Fin 2048 → EReal := wfeat (temper s) (A.f s c)

/-- The positions of a row from its largest entry down, the first of equals first. -/
def rank {n : ℕ} (f : Fin n → EReal) : Fin n → Fin n := sortedFrom (byVal f)

/-- The four largest weighted features of a frame. -/
def Args.top (s : Fin 16) (c : Fin 10) (i : Fin 32) (k : Fin 4) : EReal := A.wf s c i (rank (A.wf s c i) ⟨k.val, by omega⟩)

/-- The three frames at which a sample's features change most. -/
def Args.pick (s : Fin 16) (k : Fin 3) : Fin 32 := ⟨(rank (diff (A.f s)) ⟨k.val, by omega⟩).val + 3, by omega⟩

/-- The sample whose frames a sample's results are taken at: the abnormal one of its pair. -/
def pair (s : Fin 16) : Fin 16 := if h : s.val < 8 then ⟨s.val + 8, by omega⟩ else s

/-- The weighted features at the picked frames. -/
def Args.picked (s : Fin 16) (k : Fin 3) (c : Fin 10) (l : Fin 2048) : EReal := A.wf s c (A.pick (pair s) k) l

/-- The mean score at the picked frames. -/
def Args.sel (s : Fin 16) : EReal := Ideal.div (∑ k, A.sc s (A.pick (pair s) k)) (Ideal.ofBits FTy.f32 1077936128#32)

end Cert.Spec

end
-- ==== Proof.KOut.lean ====
/- The kernel's results, entry by entry, as functions of its arguments. -/
module

public import proofs.«01_k».proof.Proof.KRest
public import proofs.«01_k».proof.Proof.KSel
public import proofs.«01_k».proof.Proof.Run
public import proofs.«01_k».proof.Proof.Results
public import Idealize.ShloMosaic.Lib.Pipeline.ValueKit

@[expose] public section

set_option maxRecDepth 16384

noncomputable section

namespace Cert.KernelIdeal.Hand

open Cert.KernelIdeal Cert.KernelIdeal.Gen Cert.Spec Cert.Order
open Idealize.ShloMosaic Idealize.ShloMosaic.TcCoe Idealize.ShloMosaic.Tactic
open Idealize.SL Idealize.SL.RA Idealize.SL.Sem

variable (m : (ℓ : Loc nD τ sig) → Buf (Elt Ideal) ℓ) (c : Dev nD)

/-- The arguments as launched, on plain positions. -/
def args : Args where
  x s cr i l := (m ((c : Thread nD τ).loc main_arg0) : Vec Ideal S16x10x32x2048 .f32) (ix4 s cr i l)
  wq k d := (m ((c : Thread nD τ).loc main_arg1) : Vec Ideal S2048x512 .f32) (ix2 k d)
  wk k d := (m ((c : Thread nD τ).loc main_arg2) : Vec Ideal S2048x512 .f32) (ix2 k d)
  wv k d := (m ((c : Thread nD τ).loc main_arg3) : Vec Ideal S2048x512 .f32) (ix2 k d)
  wo k d := (m ((c : Thread nD τ).loc main_arg4) : Vec Ideal S512x2048 .f32) (ix2 k d)
  w1 k d := (m ((c : Thread nD τ).loc main_arg5) : Vec Ideal S2048x512 .f32) (ix2 k d)
  b1 d := (m ((c : Thread nD τ).loc main_arg6) : Vec Ideal S512 .f32) (ix1 d)
  w2 k d := (m ((c : Thread nD τ).loc main_arg7) : Vec Ideal S512x128 .f32) (ix2 k d)
  b2 d := (m ((c : Thread nD τ).loc main_arg8) : Vec Ideal S128 .f32) (ix1 d)
  w3 d := (m ((c : Thread nD τ).loc main_arg9) : Vec Ideal S128x1 .f32) (ix2 d 0)
  b3 := (m ((c : Thread nD τ).loc main_arg10) : Vec Ideal S1 .f32) (ix1 0)

/-- The sample of a grid point. -/
def smp (t : Fin cfg0.N) : Fin 16 := ⟨if t.val < 8 then t.val + 8 else t.val - 8, by have := lt_of_lt_of_eq t.isLt N_0; split <;> omega⟩

/-- The block window 0 reads or writes at a point. -/
theorem wix0 : ∀ t : Fin cfg0.N, win0_0.index t = ![(smp t).val, 0, 0, 0] := (by decide +kernel : ∀ t : Fin grid0.N, _)
/-- The block window 1 reads or writes at a point. -/
theorem wix1 : ∀ t : Fin cfg0.N, win0_1.index t = ![0, 0] := (by decide +kernel : ∀ t : Fin grid0.N, _)
/-- The block window 2 reads or writes at a point. -/
theorem wix2 : ∀ t : Fin cfg0.N, win0_2.index t = ![0, 0] := (by decide +kernel : ∀ t : Fin grid0.N, _)
/-- The block window 3 reads or writes at a point. -/
theorem wix3 : ∀ t : Fin cfg0.N, win0_3.index t = ![0, 0] := (by decide +kernel : ∀ t : Fin grid0.N, _)
/-- The block window 4 reads or writes at a point. -/
theorem wix4 : ∀ t : Fin cfg0.N, win0_4.index t = ![0, 0] := (by decide +kernel : ∀ t : Fin grid0.N, _)
/-- The block window 5 reads or writes at a point. -/
theorem wix5 : ∀ t : Fin cfg0.N, win0_5.index t = ![0, 0] := (by decide +kernel : ∀ t : Fin grid0.N, _)
/-- The block window 6 reads or writes at a point. -/
theorem wix6 : ∀ t : Fin cfg0.N, win0_6.index t = ![0, 0] := (by decide +kernel : ∀ t : Fin grid0.N, _)
/-- The block window 7 reads or writes at a point. -/
theorem wix7 : ∀ t : Fin cfg0.N, win0_7.index t = ![0, 0] := (by decide +kernel : ∀ t : Fin grid0.N, _)
/-- The block window 8 reads or writes at a point. -/
theorem wix8 : ∀ t : Fin cfg0.N, win0_8.index t = ![0, 0] := (by decide +kernel : ∀ t : Fin grid0.N, _)
/-- The block window 9 reads or writes at a point. -/
theorem wix9 : ∀ t : Fin cfg0.N, win0_9.index t = ![0, 0] := (by decide +kernel : ∀ t : Fin grid0.N, _)
/-- The block window 10 reads or writes at a point. -/
theorem wix10 : ∀ t : Fin cfg0.N, win0_10.index t = ![0, 0] := (by decide +kernel : ∀ t : Fin grid0.N, _)
/-- The block window 11 reads or writes at a point. -/
theorem wix11 : ∀ t : Fin cfg0.N, win0_11.index t = ![(smp t).val, 0, 0, 0] := (by decide +kernel : ∀ t : Fin grid0.N, _)
/-- The block window 12 reads or writes at a point. -/
theorem wix12 : ∀ t : Fin cfg0.N, win0_12.index t = ![(smp t).val, 0, 0, 0] := (by decide +kernel : ∀ t : Fin grid0.N, _)
/-- The block window 13 reads or writes at a point. -/
theorem wix13 : ∀ t : Fin cfg0.N, win0_13.index t = ![(smp t).val, 0, 0] := (by decide +kernel : ∀ t : Fin grid0.N, _)
/-- The block window 14 reads or writes at a point. -/
theorem wix14 : ∀ t : Fin cfg0.N, win0_14.index t = ![(smp t).val, 0, 0] := (by decide +kernel : ∀ t : Fin grid0.N, _)

/-- The reshaped `b1` as the grid finds it. -/
theorem V_v0 : (V m c main_v0 : Vec Ideal S1x512 .f32) = shapeCast S1x512 (m ((c : Thread nD τ).loc main_arg6) : Vec Ideal S512 .f32) shapeCasts_S512_S1x512 := by
  show StableHlo.after hostOps0 _ (Proc.devRef .tc main_v0) = _
  after_results
  rfl
/-- The reshaped `b2` as the grid finds it. -/
theorem V_v1 : (V m c main_v1 : Vec Ideal S1x128 .f32) = shapeCast S1x128 (m ((c : Thread nD τ).loc main_arg8) : Vec Ideal S128 .f32) shapeCasts_S128_S1x128 := by
  show StableHlo.after hostOps0 _ (Proc.devRef .tc main_v1) = _
  after_results
  rfl
/-- The reshaped `W3` as the grid finds it. -/
theorem V_v2 : (V m c main_v2 : Vec Ideal S1x128 .f32) = shapeCast S1x128 (m ((c : Thread nD τ).loc main_arg9) : Vec Ideal S128x1 .f32) shapeCasts_S128x1_S1x128 := by
  show StableHlo.after hostOps0 _ (Proc.devRef .tc main_v2) = _
  after_results
  rfl
/-- The reshaped `b3` as the grid finds it. -/
theorem V_v3 : (V m c main_v3 : Vec Ideal S1x1 .f32) = shapeCast S1x1 (m ((c : Thread nD τ).loc main_arg10) : Vec Ideal S1 .f32) shapeCasts_S1_S1x1 := by
  show StableHlo.after hostOps0 _ (Proc.devRef .tc main_v3) = _
  after_results
  rfl

variable (t : Fin cfg0.N)

/-- The sample's frames. -/
theorem b_x (cr : Fin 10) (i : Fin 32) (l : Fin 2048) : (blocksAt m c t).x1 (ix4 0 cr i l) = (args m c).x (smp t) cr i l := by
  show iblk m c 0 t _ = _
  blk_simp [iblk]
  rw [V_main_arg0]
  show m _ _ = m _ _
  congr 1
  blk_ext [wix0]

/-- The whole array `wq`. -/
theorem b_wq : mat (blocksAt m c t).x2 = (args m c).wq := by
  funext k d
  show iblk m c 1 t (ix2 k d) = _
  blk_simp [iblk]
  rw [V_main_arg1]
  show m _ _ = m _ _
  congr 1
  blk_ext [wix1]

/-- The whole array `wk`. -/
theorem b_wk : mat (blocksAt m c t).x3 = (args m c).wk := by
  funext k d
  show iblk m c 2 t (ix2 k d) = _
  blk_simp [iblk]
  rw [V_main_arg2]
  show m _ _ = m _ _
  congr 1
  blk_ext [wix2]

/-- The whole array `wv`. -/
theorem b_wv : mat (blocksAt m c t).x4 = (args m c).wv := by
  funext k d
  show iblk m c 3 t (ix2 k d) = _
  blk_simp [iblk]
  rw [V_main_arg3]
  show m _ _ = m _ _
  congr 1
  blk_ext [wix3]

/-- The whole array `wo`. -/
theorem b_wo : mat (blocksAt m c t).x5 = (args m c).wo := by
  funext k d
  show iblk m c 4 t (ix2 k d) = _
  blk_simp [iblk]
  rw [V_main_arg4]
  show m _ _ = m _ _
  congr 1
  blk_ext [wix4]

/-- The whole array `w1`. -/
theorem b_w1 : mat (blocksAt m c t).x6 = (args m c).w1 := by
  funext k d
  show iblk m c 5 t (ix2 k d) = _
  blk_simp [iblk]
  rw [V_main_arg5]
  show m _ _ = m _ _
  congr 1
  blk_ext [wix5]

/-- The whole array `w2`. -/
theorem b_w2 : mat (blocksAt m c t).x8 = (args m c).w2 := by
  funext k d
  show iblk m c 7 t (ix2 k d) = _
  blk_simp [iblk]
  rw [V_main_arg7]
  show m _ _ = m _ _
  congr 1
  blk_ext [wix7]

/-- The whole array `b1`. -/
theorem b_b1 : vec (blocksAt m c t).x7 = (args m c).b1 := by
  funext d
  show iblk m c 6 t (ix2 0 d) = _
  blk_simp [iblk]
  rw [V_v0]
  have e : (win0_6.blk t).view.emb (ix2 0 d) = ix2 0 d := by blk_ext [wix6]
  rw [e]
  unfold args
  pointwise

/-- The whole array `b2`. -/
theorem b_b2 : vec (blocksAt m c t).x9 = (args m c).b2 := by
  funext d
  show iblk m c 8 t (ix2 0 d) = _
  blk_simp [iblk]
  rw [V_v1]
  have e : (win0_8.blk t).view.emb (ix2 0 d) = ix2 0 d := by blk_ext [wix8]
  rw [e]
  unfold args
  pointwise

/-- The whole array `w3`. -/
theorem b_w3 : vec (blocksAt m c t).x10 = (args m c).w3 := by
  funext d
  show iblk m c 9 t (ix2 0 d) = _
  blk_simp [iblk]
  rw [V_v2]
  have e : (win0_9.blk t).view.emb (ix2 0 d) = ix2 0 d := by blk_ext [wix9]
  rw [e]
  unfold args
  pointwise

/-- The one entry of `b3`. -/
theorem b_b3 : (blocksAt m c t).x11 (ix2 0 0) = (args m c).b3 := by
  show iblk m c 10 t (ix2 0 0) = _
  blk_simp [iblk]
  rw [V_v3]
  have e : (win0_10.blk t).view.emb (ix2 0 0) = ix2 0 0 := by blk_ext [wix10]
  rw [e]
  unfold args
  pointwise

/-- The named constant is the scale. -/
theorem scale_eq : scaleK = scale := rfl

/-- A sample's features. -/
theorem feats_eq : feats (blocksAt m c t) = (args m c).f (smp t) := by
  funext cr
  unfold feats Args.f
  rw [b_wq, b_wk, b_wv, b_wo, scale_eq]
  congr 1
  funext i l
  exact b_x m c t cr i l

/-- A sample's scores. -/
theorem scores_eq : scoresK (blocksAt m c t) = (args m c).sc (smp t) := by
  funext i
  unfold scoresK Args.sc
  rw [feats_eq, b_w1, b_b1, b_w2, b_b2, b_w3, b_b3]

/-- A sample's temperature. -/
theorem temp_eq : temp (phase (grid0.coords t)) = temper (smp t) := by
  have h : t.val < 16 := lt_of_lt_of_eq t.isLt N_0
  have h1 : phase (grid0.coords t) = if t.val < 8 then 1#1 else 0#1 := by
    have := (by decide +kernel : ∀ t : Fin grid0.N, phase (grid0.coords t) = if t.val < 8 then 1#1 else 0#1)
    exact this t
  unfold temp temper smp
  rw [h1]
  by_cases h8 : t.val < 8
  · rw [if_pos h8, if_neg (by simp only [if_pos h8]; omega)]; rfl
  · rw [if_neg h8, if_pos (by simp only [if_neg h8]; omega)]; rfl

/-- The sample a point takes its frames from. -/
theorem smp_back : smp (back t) = pair (smp t) := by
  have h : t.val < 16 := lt_of_lt_of_eq t.isLt N_0
  apply Fin.ext
  unfold back smp pair
  by_cases h8 : t.val < 8
  · simp only [if_pos h8]
    rw [dif_neg (by show ¬ (t.val + 8 < 8); omega)]
  · simp only [if_neg h8]
    rw [dif_pos (by show t.val - 8 < 8; omega)]
    show (if t.val - 8 < 8 then t.val - 8 + 8 else t.val - 8 - 8) = t.val - 8 + 8
    rw [if_pos (by omega)]

/-- The three words of a point. -/
theorem words_eq (k : Fin 3) : words m c t k = BitVec.ofNat 32 ((args m c).pick (pair (smp t)) k).val := by
  unfold words
  rw [idxP_at (blocksAt m c (back t)) (rank _) (ranked_sorted _) k, feats_eq, smp_back]
  rfl

/-- The largest entries a point stores. -/
theorem top_eq (cr : Fin 10) (i : Fin 32) (k : Fin 4) :
    topkP (blocksAt m c t) (phase (grid0.coords t)) (ix4 0 cr i k) = (args m c).top (smp t) cr i k := by
  rw [topkP_at _ _ cr i k (rank _) (ranked_sorted _), temp_eq, feats_eq]
  rfl

/-- The picked rows a point stores. -/
theorem picked_eq (k : Fin 3) (cr : Fin 10) (l : Fin 2048) :
    featP (distP (blocksAt m c t) (phase (grid0.coords t))) (words m c t) (ix4 0 k cr l) = (args m c).picked (smp t) k cr l := by
  rw [featP_at _ _ _ (words_eq m c t) k cr l, distP_at, temp_eq, feats_eq]
  rfl

/-- The mean score a point stores. -/
theorem sel_eq' (e : Fin 128) : selP (blocksAt m c t) (words m c t) (ix3 0 0 e) = (args m c).sel (smp t) := by
  rw [selP_at _ _ _ (words_eq m c t) e, scores_eq]
  rfl

/-- The array of the largest entries. -/
theorem arr11 : (dats m 0 c).arrAt 11 cfg0.N = (fun y => (args m c).top (y 0) (y 1) (y 2) (y 3) : Vec Ideal S16x10x32x4 .f32) := by
  refine (dats m 0 c).arrAt_eq_of_covers 11 _ (by decide +kernel) fun t hf y => ?_
  blk_simp
  rw [after0_11]
  have e : (win0_11.blk t).view.emb y = ix4 (smp t) (y 1) (y 2) (y 3) := by
    have h0 : (y 0).val < 1 := (y 0).isLt
    idx_bounds y
    blk_ext [wix11]
  have hy : y = ix4 0 (y 1) (y 2) (y 3) := by
    funext a
    apply Fin.ext
    have h0 : (y 0).val < 1 := (y 0).isLt
    have h1 : (y 1).val < _ := (y 1).isLt
    fin_cases a <;> first | rfl | (show (y 0).val = 0; omega) | (show (y 1).val = 0; exact Nat.lt_one_iff.mp h1)
  rw [e, hy]
  exact top_eq m c t (y 1) (y 2) (y 3)

/-- The array of the picked rows. -/
theorem arr12 : (dats m 0 c).arrAt 12 cfg0.N = (fun y => (args m c).picked (y 0) (y 1) (y 2) (y 3) : Vec Ideal S16x3x10x2048 .f32) := by
  refine (dats m 0 c).arrAt_eq_of_covers 12 _ (by decide +kernel) fun t hf y => ?_
  blk_simp
  rw [after0_12]
  have e : (win0_12.blk t).view.emb y = ix4 (smp t) (y 1) (y 2) (y 3) := by
    have h0 : (y 0).val < 1 := (y 0).isLt
    idx_bounds y
    blk_ext [wix12]
  have hy : y = ix4 0 (y 1) (y 2) (y 3) := by
    funext a
    apply Fin.ext
    have h0 : (y 0).val < 1 := (y 0).isLt
    have h1 : (y 1).val < _ := (y 1).isLt
    fin_cases a <;> first | rfl | (show (y 0).val = 0; omega) | (show (y 1).val = 0; exact Nat.lt_one_iff.mp h1)
  rw [e, hy]
  exact picked_eq m c t (y 1) (y 2) (y 3)

/-- The array of the scores. -/
theorem arr13 : (dats m 0 c).arrAt 13 cfg0.N = (fun y => (args m c).sc (y 0) (y 2) : Vec Ideal S16x1x32 .f32) := by
  refine (dats m 0 c).arrAt_eq_of_covers 13 _ (by decide +kernel) fun t hf y => ?_
  blk_simp
  rw [after0_13]
  have e : (win0_13.blk t).view.emb y = ix3 (smp t) 0 (y 2) := by
    have h0 : (y 0).val < 1 := (y 0).isLt
    idx_bounds y
    blk_ext [wix13]
  have hy : y = ix3 0 0 (y 2) := by
    funext a
    apply Fin.ext
    have h0 : (y 0).val < 1 := (y 0).isLt
    have h1 : (y 1).val < _ := (y 1).isLt
    fin_cases a <;> first | rfl | (show (y 0).val = 0; omega) | (show (y 1).val = 0; exact Nat.lt_one_iff.mp h1)
  rw [e, hy]
  exact (scoresP_at _ (y 2)).trans (congrFun (scores_eq m c t) (y 2))

/-- The array of the mean scores. -/
theorem arr14 : (dats m 0 c).arrAt 14 cfg0.N = (fun y => (args m c).sel (y 0) : Vec Ideal S16x1x128 .f32) := by
  refine (dats m 0 c).arrAt_eq_of_covers 14 _ (by decide +kernel) fun t hf y => ?_
  blk_simp
  rw [after0_14]
  have e : (win0_14.blk t).view.emb y = ix3 (smp t) 0 (y 2) := by
    have h0 : (y 0).val < 1 := (y 0).isLt
    idx_bounds y
    blk_ext [wix14]
  have hy : y = ix3 0 0 (y 2) := by
    funext a
    apply Fin.ext
    have h0 : (y 0).val < 1 := (y 0).isLt
    have h1 : (y 1).val < _ := (y 1).isLt
    fin_cases a <;> first | rfl | (show (y 0).val = 0; omega) | (show (y 1).val = 0; exact Nat.lt_one_iff.mp h1)
  rw [e, hy]
  exact sel_eq' m c t (y 2)

/-- What the lines after the grid leave in a buffer. -/
abbrev tail (b : Ref sig .tc) : Buf (Elt Ideal) ((c : Thread nD τ).loc b) := Pipeline.afterTail₀ cfgs (dats m) 0 (V0 m) [hostOps1] c b

/-- An output array after the grid, read by the later lines. -/
theorem out11 : Pipeline.withArrays (cfgs 0).spec c (V0 m c) (fun w => (dats m 0 c).arrAt w (cfgs 0).N) (Proc.tc.devRef main_v4_0) = (dats m 0 c).arrAt 11 cfg0.N :=
  Pipeline.withArrays_arr spec0 launch0.win.arr_inj c (V0 m c) (fun w => (dats m 0 c).arrAt w cfg0.N) 11

/-- An output array after the grid, read by the later lines. -/
theorem out12 : Pipeline.withArrays (cfgs 0).spec c (V0 m c) (fun w => (dats m 0 c).arrAt w (cfgs 0).N) (Proc.tc.devRef main_v4_1) = (dats m 0 c).arrAt 12 cfg0.N :=
  Pipeline.withArrays_arr spec0 launch0.win.arr_inj c (V0 m c) (fun w => (dats m 0 c).arrAt w cfg0.N) 12

/-- An output array after the grid, read by the later lines. -/
theorem out13 : Pipeline.withArrays (cfgs 0).spec c (V0 m c) (fun w => (dats m 0 c).arrAt w (cfgs 0).N) (Proc.tc.devRef main_v4_2) = (dats m 0 c).arrAt 13 cfg0.N :=
  Pipeline.withArrays_arr spec0 launch0.win.arr_inj c (V0 m c) (fun w => (dats m 0 c).arrAt w cfg0.N) 13

/-- An output array after the grid, read by the later lines. -/
theorem out14 : Pipeline.withArrays (cfgs 0).spec c (V0 m c) (fun w => (dats m 0 c).arrAt w (cfgs 0).N) (Proc.tc.devRef main_v4_3) = (dats m 0 c).arrAt 14 cfg0.N :=
  Pipeline.withArrays_arr spec0 launch0.win.arr_inj c (V0 m c) (fun w => (dats m 0 c).arrAt w cfg0.N) 14

/-- The largest entries of the normal samples. -/
theorem tail_v6 (s : Fin 8) (cr : Fin 10) (i : Fin 32) (k : Fin 4) :
    (tail m c main_v6 : Vec Ideal S80x32x4 .f32) (ix3 ⟨s.val * 10 + cr.val, by omega⟩ i k) = (args m c).top ⟨s.val, by omega⟩ cr i k := by
  show StableHlo.after hostOps1 _ (Proc.devRef .tc main_v6) _ = _
  after_results
  rw [out11, arr11]
  generalize args m c = A
  show shapeCast S80x32x4 _ _ _ = _
  pointwise

/-- The largest entries of the abnormal samples. -/
theorem tail_v8 (s : Fin 8) (cr : Fin 10) (i : Fin 32) (k : Fin 4) :
    (tail m c main_v8 : Vec Ideal S80x32x4 .f32) (ix3 ⟨s.val * 10 + cr.val, by omega⟩ i k) = (args m c).top ⟨8 + s.val, by omega⟩ cr i k := by
  show StableHlo.after hostOps1 _ (Proc.devRef .tc main_v8) _ = _
  after_results
  rw [out11, arr11]
  generalize args m c = A
  show shapeCast S80x32x4 _ _ _ = _
  pointwise

/-- The picked rows of the normal samples. -/
theorem tail_v11 (cr : Fin 10) (s : Fin 8) (k : Fin 3) (l : Fin 2048) :
    (tail m c main_v11 : Vec Ideal S80x3x2048 .f32) (ix3 ⟨cr.val * 8 + s.val, by omega⟩ k l) = (args m c).picked ⟨s.val, by omega⟩ k cr l := by
  show StableHlo.after hostOps1 _ (Proc.devRef .tc main_v11) _ = _
  after_results
  rw [out12, arr12]
  generalize args m c = A
  show shapeCast S80x3x2048 _ _ _ = _
  pointwise

/-- The picked rows of the abnormal samples. -/
theorem tail_v14 (cr : Fin 10) (s : Fin 8) (k : Fin 3) (l : Fin 2048) :
    (tail m c main_v14 : Vec Ideal S80x3x2048 .f32) (ix3 ⟨cr.val * 8 + s.val, by omega⟩ k l) = (args m c).picked ⟨8 + s.val, by omega⟩ k cr l := by
  show StableHlo.after hostOps1 _ (Proc.devRef .tc main_v14) _ = _
  after_results
  rw [out12, arr12]
  generalize args m c = A
  show shapeCast S80x3x2048 _ _ _ = _
  pointwise

/-- The scores. -/
theorem tail_v15 (s : Fin 16) (i : Fin 32) :
    (tail m c main_v15 : Vec Ideal S16x32x1 .f32) (ix3 s i 0) = (args m c).sc s i := by
  show StableHlo.after hostOps1 _ (Proc.devRef .tc main_v15) _ = _
  after_results
  rw [out13, arr13]
  generalize args m c = A
  show shapeCast S16x32x1 _ _ _ = _
  pointwise

/-- The mean scores of the normal samples. -/
theorem tail_v17 (s : Fin 8) :
    (tail m c main_v17 : Vec Ideal S8x1 .f32) (ix2 s 0) = (args m c).sel ⟨s.val, by omega⟩ := by
  show StableHlo.after hostOps1 _ (Proc.devRef .tc main_v17) _ = _
  after_results
  rw [out14, arr14]
  generalize args m c = A
  show shapeCast S8x1 _ _ _ = _
  pointwise

/-- The mean scores of the abnormal samples. -/
theorem tail_v19 (s : Fin 8) :
    (tail m c main_v19 : Vec Ideal S8x1 .f32) (ix2 s 0) = (args m c).sel ⟨8 + s.val, by omega⟩ := by
  show StableHlo.after hostOps1 _ (Proc.devRef .tc main_v19) _ = _
  after_results
  rw [out14, arr14]
  generalize args m c = A
  show shapeCast S8x1 _ _ _ = _
  pointwise

end Cert.KernelIdeal.Hand

end
-- ==== Proof.RVal.lean ====
/- The reference's intermediate values, entry by entry, as functions of its arguments. -/
module

public import proofs.«01_k».proof.Proof.Gen.ReferenceIdeal.Run
public import proofs.«01_k».proof.Proof.Results
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Value Cert.Spec Cert.Order
open Idealize.ShloMosaic Idealize.ShloMosaic.TcCoe Idealize.ShloMosaic.Tactic

variable (U : Valuation τ sig (Elt Ideal))

/-- The arguments on plain positions. -/
def args : Args where
  x s cr i l := (U (Proc.devRef .tc main_arg0) : Vec Ideal S16x10x32x2048 .f32) (ix4 s cr i l)
  wq k d := (U (Proc.devRef .tc main_arg1) : Vec Ideal S2048x512 .f32) (ix2 k d)
  wk k d := (U (Proc.devRef .tc main_arg2) : Vec Ideal S2048x512 .f32) (ix2 k d)
  wv k d := (U (Proc.devRef .tc main_arg3) : Vec Ideal S2048x512 .f32) (ix2 k d)
  wo k d := (U (Proc.devRef .tc main_arg4) : Vec Ideal S512x2048 .f32) (ix2 k d)
  w1 k d := (U (Proc.devRef .tc main_arg5) : Vec Ideal S2048x512 .f32) (ix2 k d)
  b1 d := (U (Proc.devRef .tc main_arg6) : Vec Ideal S512 .f32) (ix1 d)
  w2 k d := (U (Proc.devRef .tc main_arg7) : Vec Ideal S512x128 .f32) (ix2 k d)
  b2 d := (U (Proc.devRef .tc main_arg8) : Vec Ideal S128 .f32) (ix1 d)
  w3 d := (U (Proc.devRef .tc main_arg9) : Vec Ideal S128x1 .f32) (ix2 d 0)
  b3 := (U (Proc.devRef .tc main_arg10) : Vec Ideal S1 .f32) (ix1 0)

/-- The crops in one row of 160. -/
theorem v0_at (s : Fin 16) (cr : Fin 10) (i : Fin 32) (l : Fin 2048) :
    (res_main_v0 U : Vec Ideal S160x32x2048 .f32) (ix3 ⟨s.val * 10 + cr.val, by omega⟩ i l) = (args U).x s cr i l := by
  unfold res_main_v0 args
  pointwise

/-- Dividing by the square root of 512 is multiplying by the scale. -/
theorem div_root (x : EReal) : Ideal.div x (Ideal.sqrt (Ideal.ofBits FTy.f32 1140850688#32)) = x * scale := by
  have h : Ideal.ofBits FTy.f32 1140850688#32 = ((512 : ℝ) : EReal) := by
    simp [Ideal.ofBits, Ideal.ieee, -EReal.coe_mul]; norm_num
  rw [h]
  have h2 : Ideal.sqrt ((512 : ℝ) : EReal) = ((Real.sqrt 512 : ℝ) : EReal) := by
    rw [Ideal.sqrt_coe, if_neg (by norm_num)]
  rw [h2]
  have h3 : ((Real.sqrt 512 : ℝ) : EReal) ≠ 0 := by
    rw [← EReal.coe_zero, Ne, EReal.coe_eq_coe_iff]
    exact (Real.sqrt_pos.mpr (by norm_num)).ne'
  unfold Ideal.div scale
  rw [if_neg h3, EReal.coe_inv]

/-- The scaled products. -/
theorem v7_at (s : Fin 16) (cr : Fin 10) (i j : Fin 32) :
    (res_main_v7 U : Vec Ideal S160x32x32 .f32) (ix3 ⟨s.val * 10 + cr.val, by omega⟩ i j)
      = (∑ e, proj ((args U).x s cr) (args U).wq i e * proj ((args U).x s cr) (args U).wk j e) * scale := by
  have h := v0_at U s cr
  rw [← div_root]
  unfold res_main_v7 proj
  generalize res_main_v0 U = v at h ⊢
  simp only [← h]
  unfold args
  pointwise

/-- The largest entry of a row, as the host folds it. -/
theorem row_max3 (w : FVec Ideal S160x32x32 .f32) (a : Fin 160) (i : Fin 32) :
    Host.reduce (FloatOps.maximumf (F := Ideal) (φ := .f32)) w (constant (F := Ideal) S_ .f32 0xFF800000#32) reducesTo_S160x32x32_S160x32_d2 h_S_ (ix2 a i)
      = Finset.univ.fold max ninf (fun x => w (ix3 a i x)) := by
  pointwise

/-- The features. -/
theorem v22_at (s : Fin 16) (cr : Fin 10) (i : Fin 32) (l : Fin 2048) :
    (res_main_v22 U : Vec Ideal S160x32x2048 .f32) (ix3 ⟨s.val * 10 + cr.val, by omega⟩ i l) = (args U).f s cr i l := by
  have h := v0_at U s cr
  have h7 := v7_at U s cr
  unfold res_main_v22 res_main_v14 Args.f feat att soft
  simp only [← h7]
  unfold proj
  simp only [← h]
  generalize res_main_v0 U = v
  generalize (res_main_v7 U : FVec Ideal S160x32x32 .f32) = w
  have hM := row_max3 w
  generalize Host.reduce (FloatOps.maximumf (F := Ideal) (φ := .f32)) w (constant (F := Ideal) S_ .f32 0xFF800000#32) reducesTo_S160x32x32_S160x32_d2 h_S_ = M at hM ⊢
  unfold args
  pointwise
  simp only [hM]

/-- The scores. -/
theorem v47_at (s : Fin 16) (i : Fin 32) :
    (res_main_v47 U : Vec Ideal S16x32x1 .f32) (ix3 s i 0) = (args U).sc s i := by
  have h := v22_at U s
  unfold res_main_v47 Args.sc score hid1
  simp only [← h]
  generalize res_main_v22 U = v
  unfold args
  pointwise
  rfl

end Cert.ReferenceIdeal.Hand

end
-- ==== Proof.RWgt.lean ====
/- The reference's weighted features and frame changes, entry by entry. -/
module

public import proofs.«01_k».proof.Proof.RVal
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Value Cert.Spec Cert.Order
open Idealize.ShloMosaic Idealize.ShloMosaic.TcCoe Idealize.ShloMosaic.Tactic

variable (U : Valuation τ sig (Elt Ideal))

/-- The features of the last eight samples. -/
theorem v50_at (s : Fin 8) (cr : Fin 10) (i : Fin 32) (l : Fin 2048) :
    (res_main_v50 U : Vec Ideal S80x32x2048 .f32) (ix3 ⟨s.val * 10 + cr.val, by omega⟩ i l) = (args U).f ⟨8 + s.val, by omega⟩ cr i l := by
  rw [← v22_at]
  unfold res_main_v50
  pointwise
  congr 2
  exact Fin.ext (by simp only []; omega)

/-- The features of the first eight samples. -/
theorem v48_at (s : Fin 8) (cr : Fin 10) (i : Fin 32) (l : Fin 2048) :
    (res_main_v48 U : Vec Ideal S80x32x2048 .f32) (ix3 ⟨s.val * 10 + cr.val, by omega⟩ i l) = (args U).f ⟨s.val, by omega⟩ cr i l := by
  rw [← v22_at]
  unfold res_main_v48
  pointwise

/-- The largest entry of a row, as the host folds it. -/
theorem row_max2 (w : FVec Ideal S80x32 .f32) (a : Fin 80) :
    Host.reduce (FloatOps.maximumf (F := Ideal) (φ := .f32)) w (constant (F := Ideal) S_ .f32 0xFF800000#32) reducesTo_S80x32_S80_d1 h_S_ (ix1 a)
      = Finset.univ.fold max ninf (fun x => w (ix2 a x)) := by
  pointwise

/-- The lengths of the last eight samples' features over their temperature. -/
theorem v66_at (s : Fin 8) (cr : Fin 10) (i : Fin 32) :
    (res_main_v66 U : Vec Ideal S80x32 .f32) (ix2 ⟨s.val * 10 + cr.val, by omega⟩ i)
      = mag (Ideal.ofBits FTy.f32 1086324736#32) ((args U).f ⟨8 + s.val, by omega⟩ cr) i := by
  have h := v50_at U s cr
  unfold res_main_v66 mag
  simp only [← h]
  generalize res_main_v50 U = v
  pointwise

/-- The lengths of the first eight samples' features over their temperature. -/
theorem v89_at (s : Fin 8) (cr : Fin 10) (i : Fin 32) :
    (res_main_v89 U : Vec Ideal S80x32 .f32) (ix2 ⟨s.val * 10 + cr.val, by omega⟩ i)
      = mag (Ideal.ofBits FTy.f32 1084227584#32) ((args U).f ⟨s.val, by omega⟩ cr) i := by
  have h := v48_at U s cr
  unfold res_main_v89 mag
  simp only [← h]
  generalize res_main_v48 U = v
  pointwise

/-- The weighted features of the last eight samples. -/
theorem v82_at (s : Fin 8) (cr : Fin 10) (i : Fin 32) (l : Fin 2048) :
    (res_main_v82 U : Vec Ideal S80x32x2048 .f32) (ix3 ⟨s.val * 10 + cr.val, by omega⟩ i l)
      = (args U).wf ⟨8 + s.val, by omega⟩ cr i l := by
  have h := v50_at U s cr
  have h6 := v66_at U s cr
  have ht : temper ⟨8 + s.val, by omega⟩ = Ideal.ofBits FTy.f32 1086324736#32 := if_neg (by simp only []; omega)
  unfold res_main_v82 res_main_v73 Args.wf wfeat soft
  rw [ht]
  simp only [← h6, ← h]
  generalize (res_main_v66 U : FVec Ideal S80x32 .f32) = w
  have hM := row_max2 w
  generalize Host.reduce (FloatOps.maximumf (F := Ideal) (φ := .f32)) w (constant (F := Ideal) S_ .f32 0xFF800000#32) reducesTo_S80x32_S80_d1 h_S_ = M at hM ⊢
  generalize res_main_v50 U = v
  pointwise
  simp only [hM]

/-- The weighted features of the first eight samples. -/
theorem v105_at (s : Fin 8) (cr : Fin 10) (i : Fin 32) (l : Fin 2048) :
    (res_main_v105 U : Vec Ideal S80x32x2048 .f32) (ix3 ⟨s.val * 10 + cr.val, by omega⟩ i l)
      = (args U).wf ⟨s.val, by omega⟩ cr i l := by
  have h := v48_at U s cr
  have h6 := v89_at U s cr
  have ht : temper ⟨s.val, by omega⟩ = Ideal.ofBits FTy.f32 1084227584#32 := if_pos s.isLt
  unfold res_main_v105 res_main_v96 Args.wf wfeat soft
  rw [ht]
  simp only [← h6, ← h]
  generalize (res_main_v89 U : FVec Ideal S80x32 .f32) = w
  have hM := row_max2 w
  generalize Host.reduce (FloatOps.maximumf (F := Ideal) (φ := .f32)) w (constant (F := Ideal) S_ .f32 0xFF800000#32) reducesTo_S80x32_S80_d1 h_S_ = M at hM ⊢
  generalize res_main_v48 U = v
  pointwise
  simp only [hM]

/-- The mean over crops of the last eight samples' features. -/
theorem v55_at (s : Fin 8) (i : Fin 32) (l : Fin 2048) :
    (res_main_v55 U : Vec Ideal S8x32x2048 .f32) (ix3 s i l) = mean10 ((args U).f ⟨8 + s.val, by omega⟩) i l := by
  have h := v50_at U s
  unfold res_main_v55 mean10
  simp only [← h]
  generalize res_main_v50 U = v
  pointwise

/-- The changes between frames three apart. -/
theorem v112_at (s : Fin 8) (l : Fin 29) :
    (res_main_v112 U : Vec Ideal S8x29 .f32) (ix2 s l) = diff ((args U).f ⟨8 + s.val, by omega⟩) l := by
  have h := v55_at U s
  unfold res_main_v112 diff
  simp only [← h]
  generalize res_main_v55 U = v
  pointwise

/-- The changes, written a second time. -/
theorem v135_eq : res_main_v135 U = res_main_v112 U := rfl

end Cert.ReferenceIdeal.Hand

end
-- ==== Proof.RSel.lean ====
/- The reference's choices: the largest entries, their positions, and what is taken at them. -/
module

public import proofs.«01_k».proof.Proof.RWgt
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Value Cert.Spec Cert.Order
open Idealize.ShloMosaic Idealize.ShloMosaic.TcCoe Idealize.ShloMosaic.Tactic

variable (U : Valuation τ sig (Elt Ideal))

variable {U}

/-- The comparison of a stable descending sort is the order by value. -/
theorem before_eq {n : ℕ} (f : Fin n → EReal) :
    (fun k k' : Fin n => FloatOps.cmpfTotal (F := Ideal) (φ := .f32) .gt (f k) (f k') == 1#1) = byVal f := by
  funext k k'
  show (Ideal.cmp .ogt (f k) (f k') == 1#1) = decide (f k' < f k)
  unfold Ideal.cmp
  by_cases h : f k' < f k <;> simp [h]

/-- The values of the host's four largest, entry by entry. -/
theorem top4_at (x : FVec Ideal S80x32x2048 .f32) (a : Fin 80) (i : Fin 32) (k : Fin 4) :
    (Host.topK S80x32x4 2 (FloatOps.cmpfTotal (F := Ideal) (φ := .f32) .gt) x sliceFits_S80x32x2048_S80x32x4).1 (ix3 a i k)
      = x (ix3 a i (rank (fun l => x (ix3 a i l)) ⟨k.val, by omega⟩)) := by
  have e : ∀ q : Fin 2048, Shape.Idx.along (s := S80x32x2048) (ix3 a i ⟨k.val, by omega⟩) 2 q = ix3 a i q := fun q => by
    funext b; fin_cases b <;> rfl
  have e0 : (fun b : Fin 3 => (⟨0 + ((ix3 a i k : S80x32x4.Idx) b).val, by
      have := sliceFits_S80x32x2048_S80x32x4.2 b; have h2 := ((ix3 a i k : S80x32x4.Idx) b).isLt; exact Nat.lt_of_lt_of_le (Nat.add_lt_add_left h2 0) this⟩ : Fin (S80x32x2048.size b)))
      = ix3 a i ⟨k.val, by omega⟩ := by
    funext b; fin_cases b <;> exact Fin.ext (Nat.zero_add _)
  refine (congrArg (fun j : S80x32x2048.Idx => x (j.along 2 (sortedFrom (fun k k' => FloatOps.cmpfTotal (F := Ideal) (φ := .f32) .gt (x (j.along 2 k)) (x (j.along 2 k')) == 1#1) (j 2)))) e0).trans ?_
  refine (congrArg x (e _)).trans (congrArg (fun q : Fin 2048 => x (ix3 a i q)) ?_)
  refine congrArg (fun g : Fin 2048 → Fin 2048 → Bool => sortedFrom g ⟨k.val, by omega⟩) (Eq.trans ?_ (before_eq (fun l : Fin 2048 => x (ix3 a i l))))
  funext p q
  exact congrArg₂ (fun u v => FloatOps.cmpfTotal (F := Ideal) (φ := .f32) .gt u v == 1#1) (congrArg x (e p)) (congrArg x (e q))

/-- The positions of the host's three largest, entry by entry. -/
theorem top3_at (x : FVec Ideal S8x29 .f32) (a : Fin 8) (k : Fin 3) :
    (Host.topK S8x3 1 (FloatOps.cmpfTotal (F := Ideal) (φ := .f32) .gt) x sliceFits_S8x29_S8x3).2 (ix2 a k)
      = BitVec.ofNat 32 (rank (fun l => x (ix2 a l)) ⟨k.val, by omega⟩).val := by
  have e : ∀ q : Fin 29, Shape.Idx.along (s := S8x29) (ix2 a ⟨k.val, by omega⟩) 1 q = ix2 a q := fun q => by
    funext b; fin_cases b <;> rfl
  have e0 : (fun b : Fin 2 => (⟨0 + ((ix2 a k : S8x3.Idx) b).val, by
      have := sliceFits_S8x29_S8x3.2 b; have h2 := ((ix2 a k : S8x3.Idx) b).isLt; exact Nat.lt_of_lt_of_le (Nat.add_lt_add_left h2 0) this⟩ : Fin (S8x29.size b)))
      = ix2 a ⟨k.val, by omega⟩ := by
    funext b; fin_cases b <;> exact Fin.ext (Nat.zero_add _)
  refine (congrArg (fun j : S8x29.Idx => iotaInDim S8x29 32 1 (j.along 1 (sortedFrom (fun k k' => FloatOps.cmpfTotal (F := Ideal) (φ := .f32) .gt (x (j.along 1 k)) (x (j.along 1 k')) == 1#1) (j 1)))) e0).trans ?_
  refine (congrArg (iotaInDim S8x29 32 1) (e _)).trans (congrArg (fun q : Fin 29 => BitVec.ofNat 32 q.val) ?_)
  refine congrArg (fun g : Fin 29 → Fin 29 → Bool => sortedFrom g ⟨k.val, by omega⟩) (Eq.trans ?_ (before_eq (fun l : Fin 29 => x (ix2 a l))))
  funext p q
  exact congrArg₂ (fun u v => FloatOps.cmpfTotal (F := Ideal) (φ := .f32) .gt u v == 1#1) (congrArg x (e p)) (congrArg x (e q))

/-- A conjunction of bits that are all one is one. -/
theorem reduce_one {s t : Shape} {axes : List (Fin s.rank)} (x : IVec s 1) (h : s.ReducesTo axes t) (j : t.Idx) (hx : ∀ i, x i = 1#1) :
    Host.reduce IntOp.andi x (constantI S_ 1 1#1) h h_S_ j = 1#1 := by
  unfold Host.reduce
  generalize (List.finRange s.numel).filter (fun n => h.drop (s.rowMajor.symm n) = j) = l
  show l.foldl (fun r n => IntOp.andi r (x (s.rowMajor.symm n))) 1#1 = 1#1
  induction l with
  | nil => rfl
  | cons a l ih => rw [List.foldl_cons, hx]; exact ih

/-- A small word read signed. -/
theorem small_toInt (r : ℕ) (h : r < 32) : (BitVec.ofNat 32 r).toInt.toNat = r := by
  rw [WordArith.toInt_ofNat_small r (by omega)]; rfl

/-- A position in a row of 29 needs no wrapping. -/
theorem wrap29 : ∀ r : Fin 29, (if IntOp.cmpi .slt (BitVec.ofNat 32 r.val) 0#32 = 1#1 then IntOp.addi (BitVec.ofNat 32 r.val) 29#32 else BitVec.ofNat 32 r.val) = BitVec.ofNat 32 r.val := by
  decide

/-- A position in a row of 32 needs no wrapping. -/
theorem wrap32 : ∀ r : Fin 32, (if IntOp.cmpi .slt (BitVec.ofNat 32 r.val) 0#32 = 1#1 then IntOp.addi (BitVec.ofNat 32 r.val) 32#32 else BitVec.ofNat 32 r.val) = BitVec.ofNat 32 r.val := by
  decide

/-- A position in a row of 29 is in range. -/
theorem in29 : ∀ r : Fin 29, IntOp.andi (IntOp.cmpi .sge (BitVec.ofNat 32 r.val) 0#32) (IntOp.cmpi .sle (BitVec.ofNat 32 r.val) 28#32) = 1#1 := by
  decide

/-- A position in a row of 32 is in range. -/
theorem in32 : ∀ r : Fin 32, IntOp.andi (IntOp.cmpi .sge (BitVec.ofNat 32 r.val) 0#32) (IntOp.cmpi .sle (BitVec.ofNat 32 r.val) 31#32) = 1#1 := by
  decide

/-- Taking along a row of 29 positions. -/
theorem take29_at {α : Type} (x : S8x29.Idx → α) (idx : IVec S8x3x1 32) (s : Fin 8) (k : Fin 3) (r : Fin 29)
    (hr : idx (ix3 s k 0) = BitVec.ofNat 32 r.val) :
    Host.gather gather_S8x29_S8x3x1_S8x3_n_1_0_0_1_2_11 x idx (ix2 s k) = x (ix2 s r) := by
  have hsi : gather_S8x29_S8x3x1_S8x3_n_1_0_0_1_2_11.siIdx (ix2 s k) ⟨0, by decide⟩ = ix3 s k 0 := by
    funext b; fin_cases b <;> exact Fin.ext rfl
  unfold Host.gather
  congr 1
  funext b
  refine Fin.ext ?_
  fin_cases b
  · show 0 + s.val + 0 = s.val
    omega
  · show min (idx (gather_S8x29_S8x3x1_S8x3_n_1_0_0_1_2_11.siIdx (ix2 s k) ⟨0, by decide⟩)).toInt.toNat 28 + 0 + 0 = r.val
    rw [hsi, hr, small_toInt _ (by omega)]
    omega

/-- Taking a sample's scores along its 32 frames. -/
theorem take32_at {α : Type} (x : S8x32x1.Idx → α) (idx : IVec S8x3x1 32) (s : Fin 8) (k : Fin 3) (r : Fin 32)
    (hr : idx (ix3 s k 0) = BitVec.ofNat 32 r.val) :
    Host.gather gather_S8x32x1_S8x3x1_S8x3x1_2_1_0_0_1_2_111 x idx (ix3 s k 0) = x (ix3 s r 0) := by
  have hsi : gather_S8x32x1_S8x3x1_S8x3x1_2_1_0_0_1_2_111.siIdx (ix3 s k 0) ⟨0, by decide⟩ = ix3 s k 0 := by
    funext b; fin_cases b <;> exact Fin.ext rfl
  unfold Host.gather
  congr 1
  funext b
  refine Fin.ext ?_
  fin_cases b
  · show 0 + s.val + 0 = s.val
    omega
  · show min (idx (gather_S8x32x1_S8x3x1_S8x3x1_2_1_0_0_1_2_111.siIdx (ix3 s k 0) ⟨0, by decide⟩)).toInt.toNat 31 + 0 + 0 = r.val
    rw [hsi, hr, small_toInt _ (by omega)]
    omega
  · rfl

/-- Taking weighted features along the 32 frames. -/
theorem takeF_at {α : Type} (x : S10x8x32x2048.Idx → α) (idx : IVec S10x8x3x2048x1 32) (c : Fin 10) (s : Fin 8) (k : Fin 3) (l : Fin 2048) (r : Fin 32)
    (hr : idx (ix5 c s k l 0) = BitVec.ofNat 32 r.val) :
    Host.gather gather_S10x8x32x2048_S10x8x3x2048x1_S10x8x3x2048_n_2_013_013_2_4_1111 x idx (ix4 c s k l) = x (ix4 c s r l) := by
  have hsi : gather_S10x8x32x2048_S10x8x3x2048x1_S10x8x3x2048_n_2_013_013_2_4_1111.siIdx (ix4 c s k l) ⟨0, by decide⟩ = ix5 c s k l 0 := by
    funext b; fin_cases b <;> exact Fin.ext rfl
  unfold Host.gather
  congr 1
  funext b
  refine Fin.ext ?_
  fin_cases b
  · show 0 + c.val + 0 = c.val
    omega
  · show 0 + s.val + 0 = s.val
    omega
  · show min (idx (gather_S10x8x32x2048_S10x8x3x2048x1_S10x8x3x2048_n_2_013_013_2_4_1111.siIdx (ix4 c s k l) ⟨0, by decide⟩)).toInt.toNat 31 + 0 + 0 = r.val
    rw [hsi, hr, small_toInt _ (by omega)]
    omega
  · show 0 + l.val + 0 = l.val
    omega

end Cert.ReferenceIdeal.Hand

end
-- ==== Proof.ROut.lean ====
/- The reference's results, entry by entry. -/
module

public import proofs.«01_k».proof.Proof.RSel
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Value Cert.Spec Cert.Order
open Idealize.ShloMosaic Idealize.ShloMosaic.TcCoe Idealize.ShloMosaic.Tactic

variable (U : Valuation τ sig (Elt Ideal))

/-- The chosen positions among the changes. -/
def chosen (s : Fin 8) (k : Fin 3) : Fin 29 := rank (diff ((args U).f ⟨8 + s.val, by omega⟩)) ⟨k.val, by omega⟩

/-- The chosen frames. -/
theorem pick_val (s : Fin 8) (k : Fin 3) : ((args U).pick ⟨8 + s.val, by omega⟩ k).val = (chosen U s k).val + 3 := rfl

/-- The positions' words. -/
theorem idx30_at (s : Fin 8) (k : Fin 3) : (res_main_indices_30 U : IVec S8x3 32) (ix2 s k) = BitVec.ofNat 32 (chosen U s k).val := by
  unfold res_main_indices_30 chosen
  rw [top3_at]
  simp only [v112_at]

/-- The positions' words after wrapping. -/
theorem call3_at (s : Fin 8) (k : Fin 3) : (res_main_call3_v5 U : IVec S8x3x1 32) (ix3 s k 0) = BitVec.ofNat 32 (chosen U s k).val := by
  have h := idx30_at U s k
  unfold res_main_call3_v5
  generalize res_main_indices_30 U = v at h ⊢
  rw [← wrap29, ← h]
  pointwise
  rfl

/-- Where the condition's bit is one, a select is its first operand. -/
theorem select_in {t : Shape} {α : Type} {c : IVec t 1} {a b : t.Idx → α} {j : t.Idx} (h : c j = 1#1) : select c a b j = a j := by
  show Scalar.select (c j) (a j) (b j) = a j
  rw [h]
  rfl

/-- Counting from the fourth frame. -/
theorem add3 : ∀ r : Fin 29, IntOp.addi 3#32 (BitVec.ofNat 32 r.val) = BitVec.ofNat 32 (r.val + 3) := by decide

/-- The chosen frames' words. -/
theorem v117_at (s : Fin 8) (k : Fin 3) :
    (res_main_v117 U : IVec S8x3 32) (ix2 s k) = BitVec.ofNat 32 ((args U).pick ⟨8 + s.val, by omega⟩ k).val := by
  have h := call3_at U
  unfold res_main_v117
  generalize (res_main_call3_v5 U : IVec S8x3x1 32) = v at h ⊢
  refine (select_in (reduce_one _ _ _ fun i => ?_)).trans ?_
  · obtain ⟨a, b, rfl⟩ : ∃ a b, i = ix3 a b 0 := ⟨i 0, i 1, (eq_ix3 i).trans (congrArg (ix3 (i 0) (i 1)) (Subsingleton.elim (α := Fin 1) _ _))⟩
    have h' := in29 (chosen U a b)
    rw [← h] at h'
    refine Eq.trans ?_ h'
    pointwise
  · rw [take29_at _ v s k _ (h s k), pick_val, ← add3]
    pointwise

/-- The chosen frames' words, laid out for the scores. -/
theorem call5_at (s : Fin 8) (k : Fin 3) :
    (res_main_call5_v4 U : IVec S8x3x1 32) (ix3 s k 0) = BitVec.ofNat 32 ((args U).pick ⟨8 + s.val, by omega⟩ k).val := by
  have h := v117_at U s k
  unfold res_main_call5_v4 res_main_v124
  generalize (res_main_v117 U : IVec S8x3 32) = v at h ⊢
  rw [← wrap32, ← h]
  pointwise
  rfl

/-- The chosen frames' words, laid out for the features. -/
theorem call4_at (c : Fin 10) (s : Fin 8) (k : Fin 3) (l : Fin 2048) :
    (res_main_call4_v5 U : IVec S10x8x3x2048x1 32) (ix5 c s k l 0) = BitVec.ofNat 32 ((args U).pick ⟨8 + s.val, by omega⟩ k).val := by
  have h := v117_at U s k
  unfold res_main_call4_v5 res_main_v121
  generalize (res_main_v117 U : IVec S8x3 32) = v at h ⊢
  rw [← wrap32, ← h]
  pointwise
  rfl

/-- The mean of a sample's scores at chosen frames. -/
theorem sel_at (x : FVec Ideal S8x32x1 .f32) (v : IVec S8x3x1 32) (p : Fin 8 → Fin 3 → Fin 32)
    (hv : ∀ s k, v (ix3 s k 0) = BitVec.ofNat 32 (p s k).val) (s : Fin 8) :
    Host.divf (Host.reduceAdd (select (broadcastInDim S8x3x1 ![0, 1] bcast_S8x3_S8x3x1_0_1 (Host.reduce IntOp.andi (andi (cmpi .sge v (broadcastInDim S8x3x1 ![] bcast_S_S8x3x1 (constantI S_ 32 0#32))) (cmpi .sle v (broadcastInDim S8x3x1 ![0, 1, 2] bcast_S1x1x1_S8x3x1_0_1_2 (broadcastInDim S1x1x1 ![2] bcast_S1_S1x1x1_2 (constantI S1 32 31#32))))) (constantI S_ 1 1#1) reducesTo_S8x3x1_S8x3_d2 h_S_)) (Host.gather gather_S8x32x1_S8x3x1_S8x3x1_2_1_0_0_1_2_111 x v) (broadcastInDim S8x3x1 ![] bcast_S_S8x3x1 (constant S_ .f32 0x7FC00000#32))) (constant S_ .f32 0x00000000#32) reducesTo_S8x3x1_S8x1_d1 h_S_) (broadcastInDim S8x1 ![] bcast_S_S8x1 (constant S_ .f32 0x40400000#32)) (ix2 s 0)
      = Ideal.div (∑ k, x (ix3 s (p s k) 0)) (Ideal.ofBits FTy.f32 1077936128#32) := by
  have hg : ∀ k, select (broadcastInDim S8x3x1 ![0, 1] bcast_S8x3_S8x3x1_0_1 (Host.reduce IntOp.andi (andi (cmpi .sge v (broadcastInDim S8x3x1 ![] bcast_S_S8x3x1 (constantI S_ 32 0#32))) (cmpi .sle v (broadcastInDim S8x3x1 ![0, 1, 2] bcast_S1x1x1_S8x3x1_0_1_2 (broadcastInDim S1x1x1 ![2] bcast_S1_S1x1x1_2 (constantI S1 32 31#32))))) (constantI S_ 1 1#1) reducesTo_S8x3x1_S8x3_d2 h_S_)) (Host.gather gather_S8x32x1_S8x3x1_S8x3x1_2_1_0_0_1_2_111 x v) (broadcastInDim S8x3x1 ![] bcast_S_S8x3x1 (constant (F := Ideal) S_ .f32 0x7FC00000#32)) (ix3 s k 0) = x (ix3 s (p s k) 0) := by
    intro k
    refine (select_in ?_).trans (take32_at x v s k _ (hv s k))
    refine reduce_one _ reducesTo_S8x3x1_S8x3_d2 _ fun i => ?_
    obtain ⟨a, b, rfl⟩ : ∃ a b, i = ix3 a b 0 := ⟨i 0, i 1, (eq_ix3 i).trans (congrArg (ix3 (i 0) (i 1)) (Subsingleton.elim (α := Fin 1) _ _))⟩
    have h' := in32 (p a b)
    rw [← hv] at h'
    refine Eq.trans ?_ h'
    pointwise
  generalize select _ _ _ = w at hg ⊢
  simp only [← hg]
  pointwise

/-- The weighted features at chosen frames. -/
theorem take_at (x : FVec Ideal S80x32x2048 .f32) (v : IVec S10x8x3x2048x1 32) (p : Fin 8 → Fin 3 → Fin 32)
    (hv : ∀ c s k l, v (ix5 c s k l 0) = BitVec.ofNat 32 (p s k).val) (c : Fin 10) (s : Fin 8) (k : Fin 3) (l : Fin 2048) :
    (shapeCast S80x3x2048 (select (Host.reduce IntOp.andi (andi (cmpi .sge v (broadcastInDim S10x8x3x2048x1 ![] bcast_S_S10x8x3x2048x1 (constantI S_ 32 0#32))) (cmpi .sle v (broadcastInDim S10x8x3x2048x1 ![0, 1, 2, 3, 4] bcast_S1x1x1x1x1_S10x8x3x2048x1_0_1_2_3_4 (broadcastInDim S1x1x1x1x1 ![4] bcast_S1_S1x1x1x1x1_4 (constantI S1 32 31#32))))) (constantI S_ 1 1#1) reducesTo_S10x8x3x2048x1_S10x8x3x2048_d4 h_S_) (Host.gather gather_S10x8x32x2048_S10x8x3x2048x1_S10x8x3x2048_n_2_013_013_2_4_1111 (transpose S10x8x32x2048 [1, 0, 2, 3] (shapeCast _ x shapeCasts_S80x32x2048_S8x10x32x2048) transposes_S8x10x32x2048_S10x8x32x2048_1_0_2_3) v) (broadcastInDim S10x8x3x2048 ![] bcast_S_S10x8x3x2048 (constant S_ .f32 0x7FC00000#32))) shapeCasts_S10x8x3x2048_S80x3x2048 : FVec Ideal S80x3x2048 .f32) (ix3 ⟨c.val * 8 + s.val, by omega⟩ k l)
      = x (ix3 ⟨s.val * 10 + c.val, by omega⟩ (p s k) l) := by
  have hg : (select (Host.reduce IntOp.andi (andi (cmpi .sge v (broadcastInDim S10x8x3x2048x1 ![] bcast_S_S10x8x3x2048x1 (constantI S_ 32 0#32))) (cmpi .sle v (broadcastInDim S10x8x3x2048x1 ![0, 1, 2, 3, 4] bcast_S1x1x1x1x1_S10x8x3x2048x1_0_1_2_3_4 (broadcastInDim S1x1x1x1x1 ![4] bcast_S1_S1x1x1x1x1_4 (constantI S1 32 31#32))))) (constantI S_ 1 1#1) reducesTo_S10x8x3x2048x1_S10x8x3x2048_d4 h_S_) (Host.gather gather_S10x8x32x2048_S10x8x3x2048x1_S10x8x3x2048_n_2_013_013_2_4_1111 (transpose S10x8x32x2048 [1, 0, 2, 3] (shapeCast _ x shapeCasts_S80x32x2048_S8x10x32x2048) transposes_S8x10x32x2048_S10x8x32x2048_1_0_2_3) v) (broadcastInDim S10x8x3x2048 ![] bcast_S_S10x8x3x2048 (constant (F := Ideal) S_ .f32 0x7FC00000#32)) : FVec Ideal S10x8x3x2048 .f32) (ix4 c s k l)
      = x (ix3 ⟨s.val * 10 + c.val, by omega⟩ (p s k) l) := by
    refine (select_in (reduce_one _ _ _ fun i => ?_)).trans ((takeF_at _ v c s k l _ (hv c s k l)).trans ?_)
    · obtain ⟨a, b, d, e, rfl⟩ : ∃ a b d e, i = ix5 a b d e 0 :=
        ⟨i 0, i 1, i 2, i 3, (eq_ix5 i).trans (congrArg (ix5 (i 0) (i 1) (i 2) (i 3)) (Subsingleton.elim (α := Fin 1) _ _))⟩
      have h' := in32 (p b d)
      rw [← hv a b d e] at h'
      refine Eq.trans ?_ h'
      pointwise
    · pointwise
  generalize select _ _ _ = w at hg ⊢
  rw [← hg]
  pointwise

/-- The second chain of words is the first. -/
theorem call8_eq : res_main_call8_v4 U = res_main_call5_v4 U := rfl

/-- The second chain of words is the first. -/
theorem call7_eq : res_main_call7_v5 U = res_main_call4_v5 U := rfl

/-- The last eight samples' scores. -/
theorem v51_at (s : Fin 8) (i : Fin 32) : (res_main_v51 U : Vec Ideal S8x32x1 .f32) (ix3 s i 0) = (args U).sc ⟨8 + s.val, by omega⟩ i := by
  rw [← v47_at]
  unfold res_main_v51
  pointwise

/-- The first eight samples' scores. -/
theorem v49_at (s : Fin 8) (i : Fin 32) : (res_main_v49 U : Vec Ideal S8x32x1 .f32) (ix3 s i 0) = (args U).sc ⟨s.val, by omega⟩ i := by
  rw [← v47_at]
  unfold res_main_v49
  pointwise

/-- The frames of one of the last eight samples are its own. -/
theorem pair_hi (s : Fin 8) : pair ⟨8 + s.val, by omega⟩ = ⟨8 + s.val, by omega⟩ := by
  unfold pair
  rw [dif_neg (by simp only []; omega)]

/-- The frames of one of the first eight samples are those of its partner. -/
theorem pair_lo (s : Fin 8) : pair ⟨s.val, by omega⟩ = ⟨8 + s.val, by omega⟩ := by
  unfold pair
  rw [dif_pos (by simp only []; omega)]
  exact Fin.ext (Nat.add_comm _ _)

/-- The reference's first result. -/
def out0 : FVec Ideal S8x1 .f32 := Host.divf (Host.reduceAdd (select (broadcastInDim S8x3x1 ![0, 1] bcast_S8x3_S8x3x1_0_1 (Host.reduce IntOp.andi (andi (cmpi .sge (res_main_call5_v4 U) (broadcastInDim S8x3x1 ![] bcast_S_S8x3x1 (constantI S_ 32 0#32))) (cmpi .sle (res_main_call5_v4 U) (broadcastInDim S8x3x1 ![0, 1, 2] bcast_S1x1x1_S8x3x1_0_1_2 (broadcastInDim S1x1x1 ![2] bcast_S1_S1x1x1_2 (constantI S1 32 31#32))))) (constantI S_ 1 1#1) reducesTo_S8x3x1_S8x3_d2 h_S_)) (Host.gather gather_S8x32x1_S8x3x1_S8x3x1_2_1_0_0_1_2_111 (res_main_v51 U) (res_main_call5_v4 U)) (broadcastInDim S8x3x1 ![] bcast_S_S8x3x1 (constant S_ .f32 0x7FC00000#32))) (constant S_ .f32 0x00000000#32) reducesTo_S8x3x1_S8x1_d1 h_S_) (broadcastInDim S8x1 ![] bcast_S_S8x1 (constant S_ .f32 0x40400000#32))

/-- The reference's second result. -/
def out1 : FVec Ideal S8x1 .f32 := Host.divf (Host.reduceAdd (select (broadcastInDim S8x3x1 ![0, 1] bcast_S8x3_S8x3x1_0_1 (Host.reduce IntOp.andi (andi (cmpi .sge (res_main_call8_v4 U) (broadcastInDim S8x3x1 ![] bcast_S_S8x3x1 (constantI S_ 32 0#32))) (cmpi .sle (res_main_call8_v4 U) (broadcastInDim S8x3x1 ![0, 1, 2] bcast_S1x1x1_S8x3x1_0_1_2 (broadcastInDim S1x1x1 ![2] bcast_S1_S1x1x1_2 (constantI S1 32 31#32))))) (constantI S_ 1 1#1) reducesTo_S8x3x1_S8x3_d2 h_S_)) (Host.gather gather_S8x32x1_S8x3x1_S8x3x1_2_1_0_0_1_2_111 (res_main_v49 U) (res_main_call8_v4 U)) (broadcastInDim S8x3x1 ![] bcast_S_S8x3x1 (constant S_ .f32 0x7FC00000#32))) (constant S_ .f32 0x00000000#32) reducesTo_S8x3x1_S8x1_d1 h_S_) (broadcastInDim S8x1 ![] bcast_S_S8x1 (constant S_ .f32 0x40400000#32))

/-- The reference's third result. -/
def out2 : FVec Ideal S80x32x4 .f32 := (Host.topK S80x32x4 2 (FloatOps.cmpfTotal .gt) (res_main_v82 U) sliceFits_S80x32x2048_S80x32x4).1

/-- The reference's fourth result. -/
def out3 : FVec Ideal S80x32x4 .f32 := (Host.topK S80x32x4 2 (FloatOps.cmpfTotal .gt) (res_main_v105 U) sliceFits_S80x32x2048_S80x32x4).1

/-- The reference's fifth result. -/
def out4 : FVec Ideal S80x3x2048 .f32 := shapeCast _ (select (Host.reduce IntOp.andi (andi (cmpi .sge (res_main_call4_v5 U) (broadcastInDim S10x8x3x2048x1 ![] bcast_S_S10x8x3x2048x1 (constantI S_ 32 0#32))) (cmpi .sle (res_main_call4_v5 U) (broadcastInDim S10x8x3x2048x1 ![0, 1, 2, 3, 4] bcast_S1x1x1x1x1_S10x8x3x2048x1_0_1_2_3_4 (broadcastInDim S1x1x1x1x1 ![4] bcast_S1_S1x1x1x1x1_4 (constantI S1 32 31#32))))) (constantI S_ 1 1#1) reducesTo_S10x8x3x2048x1_S10x8x3x2048_d4 h_S_) (Host.gather gather_S10x8x32x2048_S10x8x3x2048x1_S10x8x3x2048_n_2_013_013_2_4_1111 (transpose S10x8x32x2048 [1, 0, 2, 3] (shapeCast _ (res_main_v82 U) shapeCasts_S80x32x2048_S8x10x32x2048) transposes_S8x10x32x2048_S10x8x32x2048_1_0_2_3) (res_main_call4_v5 U)) (broadcastInDim S10x8x3x2048 ![] bcast_S_S10x8x3x2048 (constant S_ .f32 0x7FC00000#32))) shapeCasts_S10x8x3x2048_S80x3x2048

/-- The reference's sixth result. -/
def out5 : FVec Ideal S80x3x2048 .f32 := shapeCast _ (select (Host.reduce IntOp.andi (andi (cmpi .sge (res_main_call7_v5 U) (broadcastInDim S10x8x3x2048x1 ![] bcast_S_S10x8x3x2048x1 (constantI S_ 32 0#32))) (cmpi .sle (res_main_call7_v5 U) (broadcastInDim S10x8x3x2048x1 ![0, 1, 2, 3, 4] bcast_S1x1x1x1x1_S10x8x3x2048x1_0_1_2_3_4 (broadcastInDim S1x1x1x1x1 ![4] bcast_S1_S1x1x1x1x1_4 (constantI S1 32 31#32))))) (constantI S_ 1 1#1) reducesTo_S10x8x3x2048x1_S10x8x3x2048_d4 h_S_) (Host.gather gather_S10x8x32x2048_S10x8x3x2048x1_S10x8x3x2048_n_2_013_013_2_4_1111 (transpose S10x8x32x2048 [1, 0, 2, 3] (shapeCast _ (res_main_v105 U) shapeCasts_S80x32x2048_S8x10x32x2048) transposes_S8x10x32x2048_S10x8x32x2048_1_0_2_3) (res_main_call7_v5 U)) (broadcastInDim S10x8x3x2048 ![] bcast_S_S10x8x3x2048 (constant S_ .f32 0x7FC00000#32))) shapeCasts_S10x8x3x2048_S80x3x2048

/-- The reference's seventh result. -/
def out6 : FVec Ideal S16x32x1 .f32 := concatenate S16x32x1 0 [⟨S8x32x1, (res_main_v49 U)⟩, ⟨S8x32x1, (res_main_v51 U)⟩] concatenates_S8x32x1_S8x32x1_S16x32x1_d0

/-- The last eight samples' mean score at the chosen frames. -/
theorem out0_at (s : Fin 8) : out0 U (ix2 s 0) = (args U).sel ⟨8 + s.val, by omega⟩ := by
  unfold out0 Args.sel
  rw [pair_hi]
  refine (sel_at (res_main_v51 U) (res_main_call5_v4 U) (fun s k => (args U).pick ⟨8 + s.val, by omega⟩ k) (call5_at U) s).trans ?_
  simp only [v51_at]

/-- The first eight samples' mean score at the chosen frames. -/
theorem out1_at (s : Fin 8) : out1 U (ix2 s 0) = (args U).sel ⟨s.val, by omega⟩ := by
  unfold out1 Args.sel
  rw [pair_lo, call8_eq]
  refine (sel_at (res_main_v49 U) (res_main_call5_v4 U) (fun s k => (args U).pick ⟨8 + s.val, by omega⟩ k) (call5_at U) s).trans ?_
  simp only [v49_at]

/-- The last eight samples' four largest weighted features. -/
theorem out2_at (s : Fin 8) (cr : Fin 10) (i : Fin 32) (k : Fin 4) :
    out2 U (ix3 ⟨s.val * 10 + cr.val, by omega⟩ i k) = (args U).top ⟨8 + s.val, by omega⟩ cr i k := by
  unfold out2 Args.top
  refine (top4_at (res_main_v82 U) _ i k).trans ?_
  simp only [v82_at]

/-- The first eight samples' four largest weighted features. -/
theorem out3_at (s : Fin 8) (cr : Fin 10) (i : Fin 32) (k : Fin 4) :
    out3 U (ix3 ⟨s.val * 10 + cr.val, by omega⟩ i k) = (args U).top ⟨s.val, by omega⟩ cr i k := by
  unfold out3 Args.top
  refine (top4_at (res_main_v105 U) _ i k).trans ?_
  simp only [v105_at]

/-- The last eight samples' weighted features at the chosen frames. -/
theorem out4_at (cr : Fin 10) (s : Fin 8) (k : Fin 3) (l : Fin 2048) :
    out4 U (ix3 ⟨cr.val * 8 + s.val, by omega⟩ k l) = (args U).picked ⟨8 + s.val, by omega⟩ k cr l := by
  unfold out4 Args.picked
  rw [pair_hi]
  refine (take_at (res_main_v82 U) (res_main_call4_v5 U) (fun s k => (args U).pick ⟨8 + s.val, by omega⟩ k) (call4_at U) cr s k l).trans ?_
  simp only [v82_at]

/-- The first eight samples' weighted features at the chosen frames. -/
theorem out5_at (cr : Fin 10) (s : Fin 8) (k : Fin 3) (l : Fin 2048) :
    out5 U (ix3 ⟨cr.val * 8 + s.val, by omega⟩ k l) = (args U).picked ⟨s.val, by omega⟩ k cr l := by
  unfold out5 Args.picked
  rw [pair_lo, call7_eq]
  refine (take_at (res_main_v105 U) (res_main_call4_v5 U) (fun s k => (args U).pick ⟨8 + s.val, by omega⟩ k) (call4_at U) cr s k l).trans ?_
  simp only [v105_at]

/-- All samples' scores. -/
theorem out6_at (s : Fin 16) (i : Fin 32) : out6 U (ix3 s i 0) = (args U).sc s i := by
  have h1 := v49_at U
  have h2 := v51_at U
  unfold out6
  generalize res_main_v49 U = a at h1 ⊢
  generalize res_main_v51 U = b at h2 ⊢
  pointwise
  split
  · rename_i h
    exact h1 ⟨s.val, h⟩ i
  · rename_i h
    refine (h2 ⟨s.val - 8, by omega⟩ i).trans ?_
    congr 1
    exact Fin.ext (by simp only []; omega)

end Cert.ReferenceIdeal.Hand

end
-- ==== Proof.Equal.lean ====
/- The two programs' results are equal where their arguments are. -/
module

public import proofs.«01_k».proof.Proof.KOut
public import proofs.«01_k».proof.Proof.ROut

@[expose] public section

set_option maxRecDepth 16384

noncomputable section

namespace Cert.Equal

open Idealize.ShloMosaic Idealize.ShloMosaic.TcCoe Idealize.ShloMosaic.Tactic Cert.Spec

/-- A function on rows of 80 by sample and crop. -/
theorem ext80 {n k : ℕ} {f g : (⟨3, ![80, n, k]⟩ : Shape).Idx → EReal}
    (h : ∀ (s : Fin 8) (c : Fin 10) (i : Fin n) (l : Fin k), f (ix3 ⟨s.val * 10 + c.val, by omega⟩ i l) = g (ix3 ⟨s.val * 10 + c.val, by omega⟩ i l)) : f = g := by
  funext y
  rw [eq_ix3 y]
  obtain ⟨a, ha⟩ : ∃ a : Fin 80, a = y 0 := ⟨_, rfl⟩
  rw [← ha]
  have e : a = ⟨(⟨a.val / 10, by omega⟩ : Fin 8).val * 10 + (⟨a.val % 10, by omega⟩ : Fin 10).val, by simp only []; omega⟩ := Fin.ext (by simp only []; omega)
  rw [e]
  exact h _ _ _ _

/-- A function on rows of 80 by crop and sample. -/
theorem ext80' {n k : ℕ} {f g : (⟨3, ![80, n, k]⟩ : Shape).Idx → EReal}
    (h : ∀ (c : Fin 10) (s : Fin 8) (i : Fin n) (l : Fin k), f (ix3 ⟨c.val * 8 + s.val, by omega⟩ i l) = g (ix3 ⟨c.val * 8 + s.val, by omega⟩ i l)) : f = g := by
  funext y
  rw [eq_ix3 y]
  obtain ⟨a, ha⟩ : ∃ a : Fin 80, a = y 0 := ⟨_, rfl⟩
  rw [← ha]
  have e : a = ⟨(⟨a.val / 8, by omega⟩ : Fin 10).val * 8 + (⟨a.val % 8, by omega⟩ : Fin 8).val, by simp only []; omega⟩ := Fin.ext (by simp only []; omega)
  rw [e]
  exact h _ _ _ _

/-- A function on a column of eight. -/
theorem ext8 {f g : (⟨2, ![8, 1]⟩ : Shape).Idx → EReal} (h : ∀ s : Fin 8, f (ix2 s 0) = g (ix2 s 0)) : f = g := by
  funext y
  rw [eq_ix2 y, Subsingleton.elim (α := Fin 1) (y 1) 0]
  exact h _

/-- A function on sixteen samples' frames. -/
theorem ext16 {f g : (⟨3, ![16, 32, 1]⟩ : Shape).Idx → EReal} (h : ∀ (s : Fin 16) (i : Fin 32), f (ix3 s i 0) = g (ix3 s i 0)) : f = g := by
  funext y
  rw [eq_ix3 y, Subsingleton.elim (α := Fin 1) (y 2) 0]
  exact h _ _

variable (m : (ℓ : Loc Cert.KernelIdeal.nD Cert.KernelIdeal.τ Cert.KernelIdeal.sig) → Buf (Elt Ideal) ℓ)
  (U : Valuation Cert.ReferenceIdeal.τ Cert.ReferenceIdeal.sig (Elt Ideal)) (c : Dev Cert.KernelIdeal.nD)

/-- The arguments agree. -/
structure Same : Prop where
  h0 : U (Proc.devRef .tc Cert.ReferenceIdeal.main_arg0) = m ((c.tc : Thread Cert.KernelIdeal.nD Cert.KernelIdeal.τ).loc Cert.KernelIdeal.main_arg0)
  h1 : U (Proc.devRef .tc Cert.ReferenceIdeal.main_arg1) = m ((c.tc : Thread Cert.KernelIdeal.nD Cert.KernelIdeal.τ).loc Cert.KernelIdeal.main_arg1)
  h2 : U (Proc.devRef .tc Cert.ReferenceIdeal.main_arg2) = m ((c.tc : Thread Cert.KernelIdeal.nD Cert.KernelIdeal.τ).loc Cert.KernelIdeal.main_arg2)
  h3 : U (Proc.devRef .tc Cert.ReferenceIdeal.main_arg3) = m ((c.tc : Thread Cert.KernelIdeal.nD Cert.KernelIdeal.τ).loc Cert.KernelIdeal.main_arg3)
  h4 : U (Proc.devRef .tc Cert.ReferenceIdeal.main_arg4) = m ((c.tc : Thread Cert.KernelIdeal.nD Cert.KernelIdeal.τ).loc Cert.KernelIdeal.main_arg4)
  h5 : U (Proc.devRef .tc Cert.ReferenceIdeal.main_arg5) = m ((c.tc : Thread Cert.KernelIdeal.nD Cert.KernelIdeal.τ).loc Cert.KernelIdeal.main_arg5)
  h6 : U (Proc.devRef .tc Cert.ReferenceIdeal.main_arg6) = m ((c.tc : Thread Cert.KernelIdeal.nD Cert.KernelIdeal.τ).loc Cert.KernelIdeal.main_arg6)
  h7 : U (Proc.devRef .tc Cert.ReferenceIdeal.main_arg7) = m ((c.tc : Thread Cert.KernelIdeal.nD Cert.KernelIdeal.τ).loc Cert.KernelIdeal.main_arg7)
  h8 : U (Proc.devRef .tc Cert.ReferenceIdeal.main_arg8) = m ((c.tc : Thread Cert.KernelIdeal.nD Cert.KernelIdeal.τ).loc Cert.KernelIdeal.main_arg8)
  h9 : U (Proc.devRef .tc Cert.ReferenceIdeal.main_arg9) = m ((c.tc : Thread Cert.KernelIdeal.nD Cert.KernelIdeal.τ).loc Cert.KernelIdeal.main_arg9)
  h10 : U (Proc.devRef .tc Cert.ReferenceIdeal.main_arg10) = m ((c.tc : Thread Cert.KernelIdeal.nD Cert.KernelIdeal.τ).loc Cert.KernelIdeal.main_arg10)

variable {m U c} (h : Same m U c)
include h

/-- Agreeing arguments are the same on plain positions. -/
theorem args_eq : Cert.ReferenceIdeal.Hand.args U = Cert.KernelIdeal.Hand.args m c := by
  unfold Cert.ReferenceIdeal.Hand.args Cert.KernelIdeal.Hand.args
  rw [h.h0, h.h1, h.h2, h.h3, h.h4, h.h5, h.h6, h.h7, h.h8, h.h9, h.h10]

/-- The first results are equal. -/
theorem eq0 : (Cert.ReferenceIdeal.Hand.out0 U : FVec Ideal Cert.KernelIdeal.S8x1 .f32) = Cert.KernelIdeal.Hand.tail m c Cert.KernelIdeal.main_v19 :=
  ext8 fun s => (Cert.ReferenceIdeal.Hand.out0_at U s).trans ((congrArg (fun A : Args => A.sel ⟨8 + s.val, by omega⟩) (args_eq h)).trans (Cert.KernelIdeal.Hand.tail_v19 m c s).symm)

/-- The second results are equal. -/
theorem eq1 : (Cert.ReferenceIdeal.Hand.out1 U : FVec Ideal Cert.KernelIdeal.S8x1 .f32) = Cert.KernelIdeal.Hand.tail m c Cert.KernelIdeal.main_v17 :=
  ext8 fun s => (Cert.ReferenceIdeal.Hand.out1_at U s).trans ((congrArg (fun A : Args => A.sel ⟨s.val, by omega⟩) (args_eq h)).trans (Cert.KernelIdeal.Hand.tail_v17 m c s).symm)

/-- The third results are equal. -/
theorem eq2 : (Cert.ReferenceIdeal.Hand.out2 U : FVec Ideal Cert.KernelIdeal.S80x32x4 .f32) = Cert.KernelIdeal.Hand.tail m c Cert.KernelIdeal.main_v8 :=
  ext80 fun s cr i k => (Cert.ReferenceIdeal.Hand.out2_at U s cr i k).trans ((congrArg (fun A : Args => A.top ⟨8 + s.val, by omega⟩ cr i k) (args_eq h)).trans (Cert.KernelIdeal.Hand.tail_v8 m c s cr i k).symm)

/-- The fourth results are equal. -/
theorem eq3 : (Cert.ReferenceIdeal.Hand.out3 U : FVec Ideal Cert.KernelIdeal.S80x32x4 .f32) = Cert.KernelIdeal.Hand.tail m c Cert.KernelIdeal.main_v6 :=
  ext80 fun s cr i k => (Cert.ReferenceIdeal.Hand.out3_at U s cr i k).trans ((congrArg (fun A : Args => A.top ⟨s.val, by omega⟩ cr i k) (args_eq h)).trans (Cert.KernelIdeal.Hand.tail_v6 m c s cr i k).symm)

/-- The fifth results are equal. -/
theorem eq4 : (Cert.ReferenceIdeal.Hand.out4 U : FVec Ideal Cert.KernelIdeal.S80x3x2048 .f32) = Cert.KernelIdeal.Hand.tail m c Cert.KernelIdeal.main_v14 :=
  ext80' fun cr s k l => (Cert.ReferenceIdeal.Hand.out4_at U cr s k l).trans ((congrArg (fun A : Args => A.picked ⟨8 + s.val, by omega⟩ k cr l) (args_eq h)).trans (Cert.KernelIdeal.Hand.tail_v14 m c cr s k l).symm)

/-- The sixth results are equal. -/
theorem eq5 : (Cert.ReferenceIdeal.Hand.out5 U : FVec Ideal Cert.KernelIdeal.S80x3x2048 .f32) = Cert.KernelIdeal.Hand.tail m c Cert.KernelIdeal.main_v11 :=
  ext80' fun cr s k l => (Cert.ReferenceIdeal.Hand.out5_at U cr s k l).trans ((congrArg (fun A : Args => A.picked ⟨s.val, by omega⟩ k cr l) (args_eq h)).trans (Cert.KernelIdeal.Hand.tail_v11 m c cr s k l).symm)

/-- The seventh results are equal. -/
theorem eq6 : (Cert.ReferenceIdeal.Hand.out6 U : FVec Ideal Cert.KernelIdeal.S16x32x1 .f32) = Cert.KernelIdeal.Hand.tail m c Cert.KernelIdeal.main_v15 :=
  ext16 fun s i => (Cert.ReferenceIdeal.Hand.out6_at U s i).trans ((congrArg (fun A : Args => A.sc s i) (args_eq h)).trans (Cert.KernelIdeal.Hand.tail_v15 m c s i).symm)

end Cert.Equal

end
-- ==== Proof.lean ====
/- The proof of the certificate: the kernel's and the reference's runs end, with their arguments and every semaphore
   counter as they must be, and their results are equal. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Index
public import proofs.«01_k».proof.Proof.Equal
public import Idealize.ShloMosaic.Lib.Claim
public import Idealize.ShloMosaic.Lib.Quiescent

@[expose] public section

noncomputable section

namespace Cert.Proof

open Idealize.ShloMosaic Idealize.SL.Sem

/-- The idealized kernel ends, its arguments unchanged and its counters at zero. -/
theorem quiet_kernel : quiescent_KernelIdeal (hKernelIdeal := Cert.KernelIdeal.Gen.facts) := fun m g _ =>
  Cert.KernelIdeal.Hand.frame_run (F := Ideal) m g Cert.KernelIdeal.Hand.idxP_lt

/-- The idealized reference ends, its arguments unchanged; it has no counters. -/
theorem quiet_reference : quiescent_ReferenceIdeal (hReferenceIdeal := Cert.ReferenceIdeal.Gen.facts) := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

/-- The idealized kernel's seven results. -/
theorem kernel_results (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD,
        r.2.mem ((c.tc : Thread Cert.KernelIdeal.nD Cert.KernelIdeal.τ).loc Cert.KernelIdeal.main_v19) = Cert.KernelIdeal.Hand.tail m c Cert.KernelIdeal.main_v19
        ∧ r.2.mem ((c.tc : Thread Cert.KernelIdeal.nD Cert.KernelIdeal.τ).loc Cert.KernelIdeal.main_v17) = Cert.KernelIdeal.Hand.tail m c Cert.KernelIdeal.main_v17
        ∧ r.2.mem ((c.tc : Thread Cert.KernelIdeal.nD Cert.KernelIdeal.τ).loc Cert.KernelIdeal.main_v8) = Cert.KernelIdeal.Hand.tail m c Cert.KernelIdeal.main_v8
        ∧ r.2.mem ((c.tc : Thread Cert.KernelIdeal.nD Cert.KernelIdeal.τ).loc Cert.KernelIdeal.main_v6) = Cert.KernelIdeal.Hand.tail m c Cert.KernelIdeal.main_v6
        ∧ r.2.mem ((c.tc : Thread Cert.KernelIdeal.nD Cert.KernelIdeal.τ).loc Cert.KernelIdeal.main_v14) = Cert.KernelIdeal.Hand.tail m c Cert.KernelIdeal.main_v14
        ∧ r.2.mem ((c.tc : Thread Cert.KernelIdeal.nD Cert.KernelIdeal.τ).loc Cert.KernelIdeal.main_v11) = Cert.KernelIdeal.Hand.tail m c Cert.KernelIdeal.main_v11
        ∧ r.2.mem ((c.tc : Thread Cert.KernelIdeal.nD Cert.KernelIdeal.τ).loc Cert.KernelIdeal.main_v15) = Cert.KernelIdeal.Hand.tail m c Cert.KernelIdeal.main_v15) :=
  (θ_run _ _ _).mono (fun r h c => ⟨(h.1 c).2 _ (Pipeline.mem_restRefs_of _ (by decide) (by decide)), (h.1 c).2 _ (Pipeline.mem_restRefs_of _ (by decide) (by decide)), (h.1 c).2 _ (Pipeline.mem_restRefs_of _ (by decide) (by decide)), (h.1 c).2 _ (Pipeline.mem_restRefs_of _ (by decide) (by decide)), (h.1 c).2 _ (Pipeline.mem_restRefs_of _ (by decide) (by decide)), (h.1 c).2 _ (Pipeline.mem_restRefs_of _ (by decide) (by decide)), (h.1 c).2 _ (Pipeline.mem_restRefs_of _ (by decide) (by decide))⟩)
    (Cert.KernelIdeal.Hand.run_main (F := Ideal) m g Cert.KernelIdeal.Hand.idxP_lt)

/-- From equal arguments the two runs end with equal results. -/
theorem equal : algebraic_KernelIdeal_ReferenceIdeal (hKernelIdeal := Cert.KernelIdeal.Gen.facts) (hReferenceIdeal := Cert.ReferenceIdeal.Gen.facts) := by
  intro m g m' g' _ ha
  have hs : ∀ c, Cert.Equal.Same m (StableHlo.launchContents m' c) c := fun c => by
    obtain ⟨h0, h1, h2, h3, h4, h5, h6, h7, h8, h9, h10⟩ := ha c
    exact ⟨h0, h1, h2, h3, h4, h5, h6, h7, h8, h9, h10⟩
  refine ⟨fun c => Cert.KernelIdeal.Hand.tail m c Cert.KernelIdeal.main_v19, fun c => Cert.KernelIdeal.Hand.tail m c Cert.KernelIdeal.main_v17, fun c => Cert.KernelIdeal.Hand.tail m c Cert.KernelIdeal.main_v8, fun c => Cert.KernelIdeal.Hand.tail m c Cert.KernelIdeal.main_v6, fun c => Cert.KernelIdeal.Hand.tail m c Cert.KernelIdeal.main_v14, fun c => Cert.KernelIdeal.Hand.tail m c Cert.KernelIdeal.main_v11, fun c => Cert.KernelIdeal.Hand.tail m c Cert.KernelIdeal.main_v15, ?_, ?_⟩
  · refine (θ_run _ _ _).mono (fun r h c => ?_) (θ_run_and (kernel_results m g) (Cert.KernelIdeal.Hand.frame_run (F := Ideal) m g Cert.KernelIdeal.Hand.idxP_lt))
    obtain ⟨k0, k1, k2, k3, k4, k5, k6⟩ := h.1 c
    exact ⟨k0, k1, k2, k3, k4, k5, k6, h.2.1 c⟩
  · refine (θ_run _ _ _).mono (fun r h c => ?_) (Cert.ReferenceIdeal.Value.run (F := Ideal) m' g')
    obtain ⟨k0, k1, k2, k3, k4, k5, k6, k⟩ := h c
    exact ⟨k0.trans (Cert.Equal.eq0 (hs c)), k1.trans (Cert.Equal.eq1 (hs c)), k2.trans (Cert.Equal.eq2 (hs c)), k3.trans (Cert.Equal.eq3 (hs c)), k4.trans (Cert.Equal.eq4 (hs c)), k5.trans (Cert.Equal.eq5 (hs c)), k6.trans (Cert.Equal.eq6 (hs c)), k⟩

/-- Everything the certificate claims. -/
theorem claim : Cert.Claim := ⟨Cert.KernelIdeal.Gen.facts, Cert.ReferenceIdeal.Gen.facts, quiet_kernel, quiet_reference, equal⟩

end Cert.Proof

end
